-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ preserves_Kernel_KernelIdeal
    ∧ algebraic_KernelIdeal_ReferenceIdeal_pre_finite_qk (hKernelIdeal := hKernelIdeal) (hReferenceIdeal := hReferenceIdeal) (hPre_finite_qk := hPre_finite_qk)
-- ==== Pre_finite_qk.lean ====
abbrev S4x4096x768 : Shape := ⟨3, ![4, 4096, 768]⟩
abbrev S_ : Shape := ⟨0, ![]⟩

class Facts : Prop where
  bcast_S_S4x4096x768 : S_.BroadcastsInDim S4x4096x768 (![] : Fin 0 → Fin S4x4096x768.rank)

variable [Facts]

def fn {F : FTy → Type} [FloatOps F] (main_arg0 : FVec F S4x4096x768 .f32) (main_arg1 : FVec F S4x4096x768 .f32) (main_arg2 : FVec F S4x4096x768 .f32) : IVec S4x4096x768 1 :=
  let main_v0 : FVec F S4x4096x768 .f32 := Host.absf main_arg0
  let main_cst : FVec F S_ .f32 := constant S_ .f32 0x7F800000#32
  let main_v1 : FVec F S4x4096x768 .f32 := broadcastInDim S4x4096x768 ![] bcast_S_S4x4096x768 main_cst
  let main_v2 : IVec S4x4096x768 1 := cmpf .olt main_v0 main_v1
  let main_v3 : FVec F S4x4096x768 .f32 := Host.absf main_arg1
  let main_cst_0 : FVec F S_ .f32 := constant S_ .f32 0x7F800000#32
  let main_v4 : FVec F S4x4096x768 .f32 := broadcastInDim S4x4096x768 ![] bcast_S_S4x4096x768 main_cst_0
  let main_v5 : IVec S4x4096x768 1 := cmpf .olt main_v3 main_v4
  let main_v6 : IVec S4x4096x768 1 := andi main_v2 main_v5
  main_v6
-- ==== Kernel.lean ====
abbrev S4x4096x768 : Shape := ⟨3, ![4, 4096, 768]⟩
abbrev S4096x4x768 : Shape := ⟨3, ![4096, 4, 768]⟩
abbrev S4096x3072 : Shape := ⟨2, ![4096, 3072]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S512x512 : Shape := ⟨2, ![512, 512]⟩
abbrev S16x3072 : Shape := ⟨2, ![16, 3072]⟩
abbrev S4096x256 : Shape := ⟨2, ![4096, 256]⟩
abbrev S16x256 : Shape := ⟨2, ![16, 256]⟩
abbrev S256 : Shape := ⟨1, ![256]⟩
abbrev S1x256 : Shape := ⟨2, ![1, 256]⟩
abbrev S16x1x3072 : Shape := ⟨3, ![16, 1, 3072]⟩
abbrev S1x1x256 : Shape := ⟨3, ![1, 1, 256]⟩
abbrev S4095x256 : Shape := ⟨2, ![4095, 256]⟩
abbrev S2x256 : Shape := ⟨2, ![2, 256]⟩
abbrev S4094x256 : Shape := ⟨2, ![4094, 256]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S4080x256 : Shape := ⟨2, ![4080, 256]⟩
abbrev S32x256 : Shape := ⟨2, ![32, 256]⟩
abbrev S4064x256 : Shape := ⟨2, ![4064, 256]⟩
abbrev S64x256 : Shape := ⟨2, ![64, 256]⟩
abbrev S4032x256 : Shape := ⟨2, ![4032, 256]⟩
abbrev S128x256 : Shape := ⟨2, ![128, 256]⟩
abbrev S3968x256 : Shape := ⟨2, ![3968, 256]⟩
abbrev S256x256 : Shape := ⟨2, ![256, 256]⟩
abbrev S3840x256 : Shape := ⟨2, ![3840, 256]⟩
abbrev S512x256 : Shape := ⟨2, ![512, 256]⟩
abbrev S3584x256 : Shape := ⟨2, ![3584, 256]⟩
abbrev S1024x256 : Shape := ⟨2, ![1024, 256]⟩
abbrev S3072x256 : Shape := ⟨2, ![3072, 256]⟩
abbrev S2048x256 : Shape := ⟨2, ![2048, 256]⟩

abbrev nBuf : Space → Nat
  | .hbm => 55
  | .vmem => 44
  | .smem => 0
  | _ => 0

abbrev bufTy : (tb : Table) → Fin (tcTables nBuf tb) → BufTy
  | .hbm, ⟨0, _⟩ => ⟨S4x4096x768, .f32⟩
  | .hbm, ⟨1, _⟩ => ⟨S4x4096x768, .f32⟩
  | .hbm, ⟨2, _⟩ => ⟨S4x4096x768, .f32⟩
  | .hbm, ⟨3, _⟩ => ⟨S4096x4x768, .f32⟩
  | .hbm, ⟨4, _⟩ => ⟨S4096x3072, .f32⟩
  | .hbm, ⟨5, _⟩ => ⟨S4096x4x768, .f32⟩
  | .hbm, ⟨6, _⟩ => ⟨S4096x3072, .f32⟩
  | .hbm, ⟨7, _⟩ => ⟨S4096x4x768, .f32⟩
  | .hbm, ⟨8, _⟩ => ⟨S4096x3072, .f32⟩
  | .hbm, ⟨9, _⟩ => ⟨S4096, .i32⟩
  | .hbm, ⟨10, _⟩ => ⟨S4096x1, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S_, .i32⟩
  | .hbm, ⟨24, _⟩ => ⟨S4096x4096, .i32⟩
  | .hbm, ⟨25, _⟩ => ⟨S4096x4096, .i1⟩
  | .hbm, ⟨26, _⟩ => ⟨S_, .i32⟩
  | .hbm, ⟨27, _⟩ => ⟨S4096x4096, .i32⟩
  | .hbm, ⟨28, _⟩ => ⟨S4096x4096, .i1⟩
  | .hbm, ⟨29, _⟩ => ⟨S_, .i32⟩
  | .hbm, ⟨30, _⟩ => ⟨S_, .i1⟩
  | .hbm, ⟨31, _⟩ => ⟨S4096x4096, .i1⟩
  | .hbm, ⟨32, _⟩ => ⟨S4096x4096, .i1⟩
  | .hbm, ⟨33, _⟩ => ⟨S4096x4096, .i1⟩
  | .hbm, ⟨34, _⟩ => ⟨S4096x4096, .i32⟩
  | .hbm, ⟨35, _⟩ => ⟨S4096x4096, .i32⟩
  | .hbm, ⟨36, _⟩ => ⟨S4096x4096, .i32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x3072, .f32⟩
  | .hbm, ⟨44, _⟩ => ⟨S4096x3072, .f32⟩
  | .hbm, ⟨45, _⟩ => ⟨S4096x3072, .f32⟩
  | .hbm, ⟨46, _⟩ => ⟨S4096x3072, .f32⟩
  | .hbm, ⟨47, _⟩ => ⟨S4096x3072, .f32⟩
  | .hbm, ⟨48, _⟩ => ⟨S16x3072, .f32⟩
  | .hbm, ⟨49, _⟩ => ⟨S16x3072, .i32⟩
  | .hbm, ⟨50, _⟩ => ⟨S16x1x3072, .f32⟩
  | .hbm, ⟨51, _⟩ => ⟨S16x1x3072, .i32⟩
  | .hbm, ⟨52, _⟩ => ⟨S4096x3072, .f32⟩
  | .hbm, ⟨53, _⟩ => ⟨S4096x4x768, .f32⟩
  | .hbm, ⟨54, _⟩ => ⟨S4x4096x768, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S4096x256, .f32⟩
  | .local _ .vmem, ⟨31, _⟩ => ⟨S4096x256, .f32⟩
  | .local _ .vmem, ⟨32, _⟩ => ⟨S16x256, .f32⟩
  | .local _ .vmem, ⟨33, _⟩ => ⟨S16x256, .f32⟩
  | .local _ .vmem, ⟨34, _⟩ => ⟨S16x256, .i32⟩
  | .local _ .vmem, ⟨35, _⟩ => ⟨S16x256, .i32⟩
  | .local _ .vmem, ⟨36, _⟩ => ⟨S4096x256, .f32⟩
  | .local _ .vmem, ⟨37, _⟩ => ⟨S4096x256, .f32⟩
  | .local _ .vmem, ⟨38, _⟩ => ⟨S1x1x256, .f32⟩
  | .local _ .vmem, ⟨39, _⟩ => ⟨S1x1x256, .f32⟩
  | .local _ .vmem, ⟨40, _⟩ => ⟨S1x1x256, .i32⟩
  | .local _ .vmem, ⟨41, _⟩ => ⟨S1x1x256, .i32⟩
  | .local _ .vmem, ⟨42, _⟩ => ⟨S4096x256, .f32⟩
  | .local _ .vmem, ⟨43, _⟩ => ⟨S4096x256, .f32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18_0 : Ref sig .tc := ⟨.hbm, 43, rfl⟩
abbrev main_v18_1 : Ref sig .tc := ⟨.hbm, 44, rfl⟩
abbrev main_v18_2 : Ref sig .tc := ⟨.hbm, 45, rfl⟩
abbrev main_v18_3 : Ref sig .tc := ⟨.hbm, 46, rfl⟩
abbrev main_v19 : Ref sig .tc := ⟨.hbm, 47, rfl⟩
abbrev main_v20_0 : Ref sig .tc := ⟨.hbm, 48, rfl⟩
abbrev main_v20_1 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43

abbrev nD : Nat := 1
abbrev τ : Topo := Topo.v7x

variable {F : FTy → Type} [FloatOps F]

abbrev grid0 : Pipeline.Grid := ⟨3, ![8, 6, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev grid1 : Pipeline.Grid := ⟨3, ![8, 6, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, true]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev grid2 : Pipeline.Grid := ⟨1, ![12], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16x256 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![12, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x1x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1x256 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S4096x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]
-- ==== ReferenceIdeal.lean ====
abbrev S4x4096x768 : Shape := ⟨3, ![4, 4096, 768]⟩
abbrev S4x4096x12x64 : Shape := ⟨4, ![4, 4096, 12, 64]⟩
abbrev S4x12x4096x64 : Shape := ⟨4, ![4, 12, 4096, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4x12x64x4096 : Shape := ⟨4, ![4, 12, 64, 4096]⟩
abbrev S4x12x64x16 : Shape := ⟨4, ![4, 12, 64, 16]⟩
abbrev S4x12x16x64 : Shape := ⟨4, ![4, 12, 16, 64]⟩
abbrev S4x12x64 : Shape := ⟨3, ![4, 12, 64]⟩
abbrev S4x12x1x64 : Shape := ⟨4, ![4, 12, 1, 64]⟩
abbrev S4x12x8192x64 : Shape := ⟨4, ![4, 12, 8192, 64]⟩
abbrev S1x1x4096x1 : Shape := ⟨4, ![1, 1, 4096, 1]⟩
abbrev S4x12x16x1x64 : Shape := ⟨5, ![4, 12, 16, 1, 64]⟩
abbrev S1x1x1x4096x1 : Shape := ⟨5, ![1, 1, 1, 4096, 1]⟩
abbrev S4x12x16x4096x64 : Shape := ⟨5, ![4, 12, 16, 4096, 64]⟩
abbrev S4x12x1x8192x64 : Shape := ⟨5, ![4, 12, 1, 8192, 64]⟩
abbrev S4x12x16x4096x64x1 : Shape := ⟨6, ![4, 12, 16, 4096, 64, 1]⟩

abbrev nBuf : Space → Nat
  | .hbm => 116
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S4x4096x768, .f32⟩
  | .hbm, ⟨2, _⟩ => ⟨S4x4096x768, .f32⟩
  | .hbm, ⟨3, _⟩ => ⟨S4x4096x12x64, .f32⟩
  | .hbm, ⟨4, _⟩ => ⟨S4x12x4096x64, .f32⟩
  | .hbm, ⟨5, _⟩ => ⟨S4x4096x12x64, .f32⟩
  | .hbm, ⟨6, _⟩ => ⟨S4x12x4096x64, .f32⟩
  | .hbm, ⟨7, _⟩ => ⟨S4x4096x12x64, .f32⟩
  | .hbm, ⟨8, _⟩ => ⟨S4x12x4096x64, .f32⟩
  | .hbm, ⟨9, _⟩ => ⟨S4096, .i32⟩
  | .hbm, ⟨10, _⟩ => ⟨S4096x1, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S_, .i32⟩
  | .hbm, ⟨24, _⟩ => ⟨S4096x4096, .i32⟩
  | .hbm, ⟨25, _⟩ => ⟨S4096x4096, .i1⟩
  | .hbm, ⟨26, _⟩ => ⟨S_, .i32⟩
  | .hbm, ⟨27, _⟩ => ⟨S4096x4096, .i32⟩
  | .hbm, ⟨28, _⟩ => ⟨S4096x4096, .i1⟩
  | .hbm, ⟨29, _⟩ => ⟨S_, .i32⟩
  | .hbm, ⟨30, _⟩ => ⟨S_, .i1⟩
  | .hbm, ⟨31, _⟩ => ⟨S4096x4096, .i1⟩
  | .hbm, ⟨32, _⟩ => ⟨S4096x4096, .i1⟩
  | .hbm, ⟨33, _⟩ => ⟨S4096x4096, .i1⟩
  | .hbm, ⟨34, _⟩ => ⟨S4096x4096, .i32⟩
  | .hbm, ⟨35, _⟩ => ⟨S4096x4096, .i32⟩
  | .hbm, ⟨36, _⟩ => ⟨S4096x4096, .i32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4x12x64x4096, .f32⟩
  | .hbm, ⟨44, _⟩ => ⟨S4x12x4096x64, .f32⟩
  | .hbm, ⟨45, _⟩ => ⟨S4x12x64x4096, .f32⟩
  | .hbm, ⟨46, _⟩ => ⟨S4x12x4096x64, .f32⟩
  | .hbm, ⟨47, _⟩ => ⟨S4x12x4096x64, .f32⟩
  | .hbm, ⟨48, _⟩ => ⟨S4x12x64x4096, .f32⟩
  | .hbm, ⟨49, _⟩ => ⟨S4x12x4096x64, .f32⟩
  | .hbm, ⟨50, _⟩ => ⟨S4x12x64x4096, .f32⟩
  | .hbm, ⟨51, _⟩ => ⟨S4x12x4096x64, .f32⟩
  | .hbm, ⟨52, _⟩ => ⟨S4x12x4096x64, .f32⟩
  | .hbm, ⟨53, _⟩ => ⟨S4x12x4096x64, .f32⟩
  | .hbm, ⟨54, _⟩ => ⟨S4x12x4096x64, .f32⟩
  | .hbm, ⟨55, _⟩ => ⟨S4x12x4096x64, .f32⟩
  | .hbm, ⟨56, _⟩ => ⟨S4x12x4096x64, .f32⟩
  | .hbm, ⟨57, _⟩ => ⟨S4x12x4096x64, .f32⟩
  | .hbm, ⟨58, _⟩ => ⟨S4x12x4096x64, .f32⟩
  | .hbm, ⟨59, _⟩ => ⟨S4x12x64x4096, .f32⟩
  | .hbm, ⟨60, _⟩ => ⟨S4x12x4096x64, .f32⟩
  | .hbm, ⟨61, _⟩ => ⟨S4x12x64x4096, .f32⟩
  | .hbm, ⟨62, _⟩ => ⟨S4x12x4096x64, .f32⟩
  | .hbm, ⟨63, _⟩ => ⟨S4x12x4096x64, .f32⟩
  | .hbm, ⟨64, _⟩ => ⟨S_, .f32⟩
  | .hbm, ⟨65, _⟩ => ⟨S4x12x4096x64, .f32⟩
  | .hbm, ⟨66, _⟩ => ⟨S4x12x4096x64, .f32⟩
  | .hbm, ⟨67, _⟩ => ⟨S4x12x64x4096, .f32⟩
  | .hbm, ⟨68, _⟩ => ⟨S4x12x64x16, .f32⟩
  | .hbm, ⟨69, _⟩ => ⟨S4x12x64x16, .i32⟩
  | .hbm, ⟨70, _⟩ => ⟨S4x12x16x64, .f32⟩
  | .hbm, ⟨71, _⟩ => ⟨S4x12x16x64, .i32⟩
  | .hbm, ⟨72, _⟩ => ⟨S_, .f32⟩
  | .hbm, ⟨73, _⟩ => ⟨S4x12x64, .f32⟩
  | .hbm, ⟨74, _⟩ => ⟨S_, .f32⟩
  | .hbm, ⟨75, _⟩ => ⟨S4x12x64, .f32⟩
  | .hbm, ⟨76, _⟩ => ⟨S4x12x64, .f32⟩
  | .hbm, ⟨77, _⟩ => ⟨S4x12x1x64, .f32⟩
  | .hbm, ⟨78, _⟩ => ⟨S4x12x16x64, .f32⟩
  | .hbm, ⟨79, _⟩ => ⟨S4x12x16x64, .f32⟩
  | .hbm, ⟨80, _⟩ => ⟨S4x12x16x64, .f32⟩
  | .hbm, ⟨81, _⟩ => ⟨S_, .f32⟩
  | .hbm, ⟨82, _⟩ => ⟨S4x12x64, .f32⟩
  | .hbm, ⟨83, _⟩ => ⟨S4x12x1x64, .f32⟩
  | .hbm, ⟨84, _⟩ => ⟨S4x12x16x64, .f32⟩
  | .hbm, ⟨85, _⟩ => ⟨S4x12x16x64, .f32⟩
  | .hbm, ⟨86, _⟩ => ⟨S4x12x8192x64, .f32⟩
  | .hbm, ⟨87, _⟩ => ⟨S4096, .i32⟩
  | .hbm, ⟨88, _⟩ => ⟨S1x1x4096x1, .i32⟩
  | .hbm, ⟨89, _⟩ => ⟨S4x12x16x1x64, .i32⟩
  | .hbm, ⟨90, _⟩ => ⟨S1x1x1x4096x1, .i32⟩
  | .hbm, ⟨91, _⟩ => ⟨S4x12x16x4096x64, .i32⟩
  | .hbm, ⟨92, _⟩ => ⟨S4x12x16x4096x64, .i32⟩
  | .hbm, ⟨93, _⟩ => ⟨S4x12x16x4096x64, .i32⟩
  | .hbm, ⟨94, _⟩ => ⟨S_, .i32⟩
  | .hbm, ⟨95, _⟩ => ⟨S_, .i32⟩
  | .hbm, ⟨96, _⟩ => ⟨S4x12x16x4096x64, .i32⟩
  | .hbm, ⟨97, _⟩ => ⟨S4x12x16x4096x64, .i32⟩
  | .hbm, ⟨98, _⟩ => ⟨S4x12x1x8192x64, .f32⟩
  | .hbm, ⟨99, _⟩ => ⟨S_, .i32⟩
  | .hbm, ⟨100, _⟩ => ⟨S4x12x16x4096x64, .i32⟩
  | .hbm, ⟨101, _⟩ => ⟨S4x12x16x4096x64, .i1⟩
  | .hbm, ⟨102, _⟩ => ⟨S_, .i32⟩
  | .hbm, ⟨103, _⟩ => ⟨S4x12x16x4096x64, .i32⟩
  | .hbm, ⟨104, _⟩ => ⟨S4x12x16x4096x64, .i32⟩
  | .hbm, ⟨105, _⟩ => ⟨S4x12x16x4096x64, .i32⟩
  | .hbm, ⟨106, _⟩ => ⟨S4x12x16x4096x64x1, .i32⟩
  | .hbm, ⟨107, _⟩ => ⟨S4x12x8192x64, .f32⟩
  | .hbm, ⟨108, _⟩ => ⟨S4x12x16x4096x64, .f32⟩
  | .hbm, ⟨109, _⟩ => ⟨S4x12x16x1x64, .f32⟩
  | .hbm, ⟨110, _⟩ => ⟨S4x12x16x4096x64, .f32⟩
  | .hbm, ⟨111, _⟩ => ⟨S4x12x16x4096x64, .f32⟩
  | .hbm, ⟨112, _⟩ => ⟨S_, .f32⟩
  | .hbm, ⟨113, _⟩ => ⟨S4x12x4096x64, .f32⟩
  | .hbm, ⟨114, _⟩ => ⟨S4x4096x12x64, .f32⟩
  | .hbm, ⟨115, _⟩ => ⟨S4x4096x768, .f32⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_values : Ref sig .tc := ⟨.hbm, 68, rfl⟩
abbrev main_indices : Ref sig .tc := ⟨.hbm, 69, rfl⟩
abbrev main_v42 : Ref sig .tc := ⟨.hbm, 70, rfl⟩
abbrev main_v43 : Ref sig .tc := ⟨.hbm, 71, rfl⟩
abbrev main_cst_1 : Ref sig .tc := ⟨.hbm, 72, rfl⟩
abbrev main_v44 : Ref sig .tc := ⟨.hbm, 73, rfl⟩
abbrev main_cst_2 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_3 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_4 : Ref sig .tc := ⟨.hbm, 94, rfl⟩
abbrev main_call1_v0 : Ref sig .tc := ⟨.hbm, 95, rfl⟩
abbrev main_call1_v1 : Ref sig .tc := ⟨.hbm, 96, rfl⟩
abbrev main_v63 : Ref sig .tc := ⟨.hbm, 97, rfl⟩
abbrev main_v64 : Ref sig .tc := ⟨.hbm, 98, rfl⟩
abbrev main_call2_c : Ref sig .tc := ⟨.hbm, 99, rfl⟩
abbrev main_call2_v0 : Ref sig .tc := ⟨.hbm, 100, rfl⟩
abbrev main_call2_v1 : Ref sig .tc := ⟨.hbm, 101, rfl⟩
abbrev main_call2_c_0 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_v6 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_5 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩

abbrev nD : Nat := 1
abbrev τ : Topo := Topo.v7x

variable {F : FTy → Type} [FloatOps F]
-- ==== Proof.Fwd.lean ====
/- REGION 0, the forward transform: what each of its four result arrays holds, at any entry contents. Every entry is one
   sum over the whole contracted axis: the table's row against the sequence's column. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Corr

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The block a run starts from is zero (output 4). -/
theorem fwd_zero4 (j) : k0_pay2 (F := Ideal) j = 0 := by pointwise [k0_pay2]
/-- The block a run starts from is zero (output 5). -/
theorem fwd_zero5 (j) : k0_pay3 (F := Ideal) j = 0 := by pointwise [k0_pay3]
/-- The block a run starts from is zero (output 6). -/
theorem fwd_zero6 (j) : k0_pay4 (F := Ideal) j = 0 := by pointwise [k0_pay4]
/-- The block a run starts from is zero (output 7). -/
theorem fwd_zero7 (j) : k0_pay5 (F := Ideal) j = 0 := by pointwise [k0_pay5]

/-- One point adds the product of the table's block and the sequence's block (output 4). -/
theorem fwd_pay4 (a x acc : Vec Ideal S512x512 .f32) (j) :
    k0_pay10 a x acc j = acc j + ∑ k : Fin 512, a (ix2 (j 0) k) * x (ix2 k (j 1)) := by
  pointwise [k0_pay10, k0_pay6, k0_pay8]
/-- One point adds the product of the table's block and the sequence's block (output 5). -/
theorem fwd_pay5 (a x acc : Vec Ideal S512x512 .f32) (j) :
    k0_pay11 a x acc j = acc j + ∑ k : Fin 512, a (ix2 (j 0) k) * x (ix2 k (j 1)) := by
  pointwise [k0_pay11, k0_pay7, k0_pay8]
/-- One point adds the product of the table's block and the sequence's block (output 6). -/
theorem fwd_pay6 (a x acc : Vec Ideal S512x512 .f32) (j) :
    k0_pay12 a x acc j = acc j + ∑ k : Fin 512, a (ix2 (j 0) k) * x (ix2 k (j 1)) := by
  pointwise [k0_pay12, k0_pay6, k0_pay9]
/-- One point adds the product of the table's block and the sequence's block (output 7). -/
theorem fwd_pay7 (a x acc : Vec Ideal S512x512 .f32) (j) :
    k0_pay1 (k0_pay7 a) (k0_pay9 x) acc j = acc j + ∑ k : Fin 512, a (ix2 (j 0) k) * x (ix2 k (j 1)) := by
  pointwise [k0_pay1, k0_pay7, k0_pay9]

/-- The windows' block indices in closed form. -/
theorem fwd_idx : ∀ t : Fin cfg0.N, win0_0.index t = ![t.val / 48, t.val % 8] ∧ win0_1.index t = ![t.val / 48, t.val % 8]
    ∧ win0_2.index t = ![t.val % 8, t.val / 8 % 6] ∧ win0_3.index t = ![t.val % 8, t.val / 8 % 6]
    ∧ win0_4.index t = ![t.val / 48, t.val / 8 % 6] ∧ win0_5.index t = ![t.val / 48, t.val / 8 % 6]
    ∧ win0_6.index t = ![t.val / 48, t.val / 8 % 6] ∧ win0_7.index t = ![t.val / 48, t.val / 8 % 6] :=
  (by decide +kernel : ∀ t : Fin grid0.N, _)

/-- A table of [4096, 4096] entries applied to a [4096, 3072] array of columns. -/
def fwd (T : S4096x4096.Idx → EReal) (X : S4096x3072.Idx → EReal) (j : S4096x3072.Idx) : EReal :=
  ∑ l : Fin 4096, T (ix2 (j 0) l) * X (ix2 l (j 1))

/-- Result 4 of region 0: the cosine table applied to the first sequence. -/
theorem fwd_arr4 (c : Dev nD) : (dat0 V c).arrAt 4 cfg0.N = fwd (V c main_v16) (V c main_v1) := by
  refine (dat0 V c).arrAt_eq_of_covers 4 (fwd (V c main_v16) (V c main_v1)) (by decide +kernel) fun t hf y => ?_
  blk_simp
  rw [Gen.after0_4, Pipeline.eq_sum_fin_of_reset_step_apply_of_flush (fun n h => (Gen.outsAt0 V c n h).1) 8 (fun _ => 0) _
    (fun t h j => by rw [Gen.outsAt0_A V c t h]; frame_out; rw [fwd_pay4, fwd_zero4])
    (fun t h j => by rw [Gen.outsAt0_B V c t h]; frame_out; rw [fwd_pay4])
    t ((Gen.flush0_4 t).mp hf) y, zero_add, fwd]
  refine Fin.sum_mul_add_congr fun s k hl => ?_
  blk_point [iblk0, fwd_idx t, fwd_idx ⟨_, Pipeline.run_point_lt_of_flush t ((Gen.flush0_4 t).mp hf) s⟩]

/-- Result 5 of region 0: the sine table applied to the first sequence. -/
theorem fwd_arr5 (c : Dev nD) : (dat0 V c).arrAt 5 cfg0.N = fwd (V c main_v17) (V c main_v1) := by
  refine (dat0 V c).arrAt_eq_of_covers 5 (fwd (V c main_v17) (V c main_v1)) (by decide +kernel) fun t hf y => ?_
  blk_simp
  rw [Gen.after0_5, Pipeline.eq_sum_fin_of_reset_step_apply_of_flush (fun n h => (Gen.outsAt0 V c n h).2.1) 8 (fun _ => 0) _
    (fun t h j => by rw [Gen.outsAt0_A V c t h]; frame_out; rw [fwd_pay5, fwd_zero5])
    (fun t h j => by rw [Gen.outsAt0_B V c t h]; frame_out; rw [fwd_pay5])
    t ((Gen.flush0_5 t).mp hf) y, zero_add, fwd]
  refine Fin.sum_mul_add_congr fun s k hl => ?_
  blk_point [iblk0, fwd_idx t, fwd_idx ⟨_, Pipeline.run_point_lt_of_flush t ((Gen.flush0_5 t).mp hf) s⟩]

/-- Result 6 of region 0: the cosine table applied to the second sequence. -/
theorem fwd_arr6 (c : Dev nD) : (dat0 V c).arrAt 6 cfg0.N = fwd (V c main_v16) (V c main_v3) := by
  refine (dat0 V c).arrAt_eq_of_covers 6 (fwd (V c main_v16) (V c main_v3)) (by decide +kernel) fun t hf y => ?_
  blk_simp
  rw [Gen.after0_6, Pipeline.eq_sum_fin_of_reset_step_apply_of_flush (fun n h => (Gen.outsAt0 V c n h).2.2.1) 8 (fun _ => 0) _
    (fun t h j => by rw [Gen.outsAt0_A V c t h]; frame_out; rw [fwd_pay6, fwd_zero6])
    (fun t h j => by rw [Gen.outsAt0_B V c t h]; frame_out; rw [fwd_pay6])
    t ((Gen.flush0_6 t).mp hf) y, zero_add, fwd]
  refine Fin.sum_mul_add_congr fun s k hl => ?_
  blk_point [iblk0, fwd_idx t, fwd_idx ⟨_, Pipeline.run_point_lt_of_flush t ((Gen.flush0_6 t).mp hf) s⟩]

/-- Result 7 of region 0: the sine table applied to the second sequence. -/
theorem fwd_arr7 (c : Dev nD) : (dat0 V c).arrAt 7 cfg0.N = fwd (V c main_v17) (V c main_v3) := by
  refine (dat0 V c).arrAt_eq_of_covers 7 (fwd (V c main_v17) (V c main_v3)) (by decide +kernel) fun t hf y => ?_
  blk_simp
  rw [Gen.after0_7, Pipeline.eq_sum_fin_of_reset_step_apply_of_flush (fun n h => (Gen.outsAt0 V c n h).2.2.2) 8 (fun _ => 0) _
    (fun t h j => by rw [Gen.outsAt0_A V c t h]; frame_out; rw [fwd_pay7, fwd_zero7])
    (fun t h j => by rw [Gen.outsAt0_B V c t h]; frame_out; rw [fwd_pay7])
    t ((Gen.flush0_7 t).mp hf) y, zero_add, fwd]
  refine Fin.sum_mul_add_congr fun s k hl => ?_
  blk_point [iblk0, fwd_idx t, fwd_idx ⟨_, Pipeline.run_point_lt_of_flush t ((Gen.flush0_7 t).mp hf) s⟩]

end Cert.KernelIdeal.Corr

end
-- ==== Proof.Inv.lean ====
/- REGION 1, the inverse transform: what its result array holds, at any entry contents. An entry is the sum, over the
   eight blocks of 512 frequencies, of the cosine part less the sine part. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Corr

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The constant the kernel scales by, as it stands in the program. -/
def scl : EReal := Ideal.ofBits .f32 0x39800000#32

/-- The real part of one frequency's cross spectrum, scaled. -/
def crossRe (cq sq ck sk : EReal) : EReal := (cq * ck + sq * sk) * scl
/-- The imaginary part of one frequency's cross spectrum, scaled. -/
def crossIm (cq sq ck sk : EReal) : EReal := (cq * sk - sq * ck) * scl

/-- The block a run starts from is zero. -/
theorem inv_zero (j) : k1_pay1 (F := Ideal) j = 0 := by pointwise [k1_pay1]

/-- One point adds the cosine block against the real parts, less the sine block against the imaginary parts. -/
theorem inv_pay (cq sq ck sk acc a b : Vec Ideal S512x512 .f32) (j) :
    k1_pay2 cq sq ck sk acc a b j = acc j
      + ((∑ k : Fin 512, a (ix2 (j 0) k)
            * crossRe (cq (ix2 k (j 1))) (sq (ix2 k (j 1))) (ck (ix2 k (j 1))) (sk (ix2 k (j 1))))
        - ∑ k : Fin 512, b (ix2 (j 0) k)
            * crossIm (cq (ix2 k (j 1))) (sq (ix2 k (j 1))) (ck (ix2 k (j 1))) (sk (ix2 k (j 1)))) := by
  unfold crossRe crossIm scl
  pointwise [k1_pay2]

/-- The windows' block indices in closed form. -/
theorem inv_idx : ∀ t : Fin cfg1.N, win1_0.index t = ![t.val / 48, t.val % 8] ∧ win1_1.index t = ![t.val / 48, t.val % 8]
    ∧ win1_2.index t = ![t.val % 8, t.val / 8 % 6] ∧ win1_3.index t = ![t.val % 8, t.val / 8 % 6]
    ∧ win1_4.index t = ![t.val % 8, t.val / 8 % 6] ∧ win1_5.index t = ![t.val % 8, t.val / 8 % 6]
    ∧ win1_6.index t = ![t.val / 48, t.val / 8 % 6] :=
  (by decide +kernel : ∀ t : Fin grid1.N, _)

/-- Frequency `k` of block `s`. -/
def freq (s : Fin 8) (k : Fin 512) : Fin 4096 := ⟨s.val * 512 + k.val, by have := s.isLt; have := k.isLt; omega⟩

/-- The inverse transform of the cross spectrum of the four spectra, block of frequencies by block. -/
def inv (A B : S4096x4096.Idx → EReal) (cq sq ck sk : S4096x3072.Idx → EReal) (j : S4096x3072.Idx) : EReal :=
  ∑ s : Fin 8, ((∑ k : Fin 512, A (ix2 (j 0) (freq s k))
          * crossRe (cq (ix2 (freq s k) (j 1))) (sq (ix2 (freq s k) (j 1))) (ck (ix2 (freq s k) (j 1))) (sk (ix2 (freq s k) (j 1))))
        - ∑ k : Fin 512, B (ix2 (j 0) (freq s k))
          * crossIm (cq (ix2 (freq s k) (j 1))) (sq (ix2 (freq s k) (j 1))) (ck (ix2 (freq s k) (j 1))) (sk (ix2 (freq s k) (j 1))))

/-- The result of region 1: the inverse transform of the cross spectrum. -/
theorem inv_arr (c : Dev nD) : (dat1 V c).arrAt 6 cfg1.N
    = inv (V c main_v16) (V c main_v17) (V c main_v18_0) (V c main_v18_1) (V c main_v18_2) (V c main_v18_3) := by
  refine (dat1 V c).arrAt_eq_of_covers 6
    (inv (V c main_v16) (V c main_v17) (V c main_v18_0) (V c main_v18_1) (V c main_v18_2) (V c main_v18_3))
    (by decide +kernel) fun t hf y => ?_
  blk_simp
  rw [Gen.after1_6, Pipeline.eq_sum_fin_of_reset_step_apply_of_flush (fun n h => Gen.outsAt1 V c n h) 8 (fun _ => 0) _
    (fun t h j => by rw [Gen.outsAt1_A V c t h]; frame_out; rw [inv_pay, inv_zero])
    (fun t h j => by rw [Gen.outsAt1_B V c t h]; frame_out; rw [inv_pay])
    t ((Gen.flush1_6 t).mp hf) y, zero_add, inv]
  refine Fin.sum_fin_congr fun s => ?_
  have h := inv_idx ⟨_, Pipeline.run_point_lt_of_flush t ((Gen.flush1_6 t).mp hf) s⟩
  congr 1
  · refine Fin.sum_fin_congr fun k => ?_
    unfold freq
    blk_point [iblk1, inv_idx t, h]
  · refine Fin.sum_fin_congr fun k => ?_
    unfold freq
    blk_point [iblk1, inv_idx t, h]

end Cert.KernelIdeal.Corr

end
-- ==== Proof.Rounds.lean ====
/- REGION 2's sixteen rounds at one block: the block's stored values are one round function iterated, and what a round
   reads at a column is a function of that column alone. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Corr

open Cert.KernelIdeal Cert.KernelIdeal.Gen
open Idealize.ShloMosaic Idealize.ShloMosaic.TcCoe Idealize.SL.Sem

/-! ## A round on a block -/

/-- The row of the columns' maxima. -/
def bmax (x : FVec Ideal S4096x256 .f32) : FVec Ideal S1x256 .f32 :=
  shapeCast S1x256 (multiReduction .maximumf [0] S256 x 0xFF800000#32 reduces_S4096x256_S256 (.inl rfl) rfl) shapeCasts_S256_S1x256

/-- The row of the least positions at which the columns take their maxima. -/
def bidx (x : FVec Ideal S4096x256 .f32) : IVec S1x256 32 :=
  shapeCast S1x256 (multiReductionI .minsi [0] S256
    (select (cmpf .oeq x (broadcastTo S4096x256 (bmax x) broadcasts_S1x256_S4096x256))
      (iota .tc S4096x256 32 [0] iota_S4096x256_d0_w32) (broadcast S4096x256 4096#32))
    2147483647#32 reduces_S4096x256_S256 rfl) shapeCasts_S256_S1x256

/-- The block with each column's chosen entry overwritten by minus infinity. -/
def bnext (x : FVec Ideal S4096x256 .f32) : FVec Ideal S4096x256 .f32 :=
  select (cmpi .eq (iota .tc S4096x256 32 [0] iota_S4096x256_d0_w32) (broadcastTo S4096x256 (bidx x) broadcasts_S1x256_S4096x256))
    (broadcast S4096x256 (Scalar.ofBits .f32 0xFF800000#32)) x

/-- The block after `n` rounds. -/
def bst (x : FVec Ideal S4096x256 .f32) : ℕ → FVec Ideal S4096x256 .f32
  | 0 => x
  | n + 1 => bnext (bst x n)

/-- Where the block's entries equal their column's maximum. -/
def bhit (y : FVec Ideal S4096x256 .f32) : IVec S4096x256 1 :=
  cmpf .oeq y (broadcastTo S4096x256 (bmax y) broadcasts_S1x256_S4096x256)

/-- Where the block's positions are their column's chosen one. -/
def bsel (y : FVec Ideal S4096x256 .f32) : IVec S4096x256 1 :=
  cmpi .eq (iota .tc S4096x256 32 [0] iota_S4096x256_d0_w32) (broadcastTo S4096x256 (bidx y) broadcasts_S1x256_S4096x256)

/-- The columns' maxima, before they are laid out as a row. -/
def brmax (y : FVec Ideal S4096x256 .f32) : FVec Ideal S256 .f32 :=
  multiReduction .maximumf [0] S256 y 0xFF800000#32 reduces_S4096x256_S256 (.inl rfl) rfl

/-- The positions of a block's rows. -/
abbrev rows : IVec S4096x256 32 := iota .tc S4096x256 32 [0] iota_S4096x256_d0_w32

/-! ## The skeleton's values are these rounds -/

section Skeleton

variable (x : Vec Ideal S4096x256 .f32) (y : FVec Ideal S4096x256 .f32)

theorem a7 : k2_pay7 x = bmax (bst (k2_pay6 x) 0) := rfl
theorem a8 : k2_pay8 x = bidx (bst (k2_pay6 x) 0) := rfl
theorem a9 : k2_pay9 x = bst (k2_pay6 x) 1 := rfl
theorem a10 : k2_pay10 x = bmax (bst (k2_pay6 x) 1) := rfl
theorem a11 : k2_pay11 x = bidx (bst (k2_pay6 x) 1) := rfl
theorem a12 : k2_pay12 x = bst (k2_pay6 x) 2 := rfl
theorem a13 : k2_pay13 x = bmax (bst (k2_pay6 x) 2) := rfl
theorem a14 : k2_pay14 x = bidx (bst (k2_pay6 x) 2) := rfl
theorem a15 : k2_pay15 x = bst (k2_pay6 x) 3 := rfl
theorem a16 : k2_pay16 x = bmax (bst (k2_pay6 x) 3) := rfl
theorem a17 : k2_pay17 x = bhit (bst (k2_pay6 x) 3) := rfl
theorem b18 : k2_pay18 rows (bhit y) 4096#32 = bidx y := rfl
theorem b19 : k2_pay19 rows y (bhit y) 4096#32 = bst y 1 := rfl
theorem b20 : k2_pay20 rows y (bhit y) 4096#32 = bmax (bst y 1) := rfl
theorem b21 : k2_pay21 rows y (bhit y) 4096#32 = bidx (bst y 1) := rfl
theorem b22 : k2_pay22 rows y (bhit y) 4096#32 = bst y 2 := rfl
theorem b23 : k2_pay23 rows y (bhit y) 4096#32 = bmax (bst y 2) := rfl
theorem b24 : k2_pay24 rows y (bhit y) 4096#32 = bidx (bst y 2) := rfl
theorem b25 : k2_pay25 rows y (bhit y) 4096#32 = bst y 3 := rfl
theorem b26 : k2_pay26 rows y (bhit y) 4096#32 = bmax (bst y 3) := rfl
theorem b27 : k2_pay27 rows y (bhit y) 4096#32 = bidx (bst y 3) := rfl
theorem b28 : k2_pay28 rows y (bhit y) 4096#32 = bst y 4 := rfl
theorem b29 : k2_pay29 rows y (bhit y) 4096#32 = brmax (bst y 4) := rfl
theorem c30 : k2_pay30 (brmax y) = bmax y := rfl
theorem c31 : k2_pay31 rows y (brmax y) = bidx y := rfl
theorem c32 : k2_pay32 rows y (brmax y) = bst y 1 := rfl
theorem c33 : k2_pay33 rows y (brmax y) = bmax (bst y 1) := rfl
theorem c34 : k2_pay34 rows y (brmax y) = bidx (bst y 1) := rfl
theorem c35 : k2_pay35 rows y (brmax y) = bst y 2 := rfl
theorem c36 : k2_pay36 rows y (brmax y) = bmax (bst y 2) := rfl
theorem c37 : k2_pay37 rows y (brmax y) = bidx (bst y 2) := rfl
theorem c38 : k2_pay38 rows y (brmax y) = bst y 3 := rfl
theorem c39 : k2_pay39 rows y (brmax y) = bmax (bst y 3) := rfl
theorem c40 : k2_pay40 rows y (brmax y) = bidx (bst y 3) := rfl
theorem c41 : k2_pay41 rows y (brmax y) = bsel (bst y 3) := rfl
theorem d42 : k2_pay42 y (bsel y) (Scalar.ofBits .f32 0xFF800000#32) = bst y 1 := rfl
theorem d43 : k2_pay43 y (bsel y) (Scalar.ofBits .f32 0xFF800000#32) = bmax (bst y 1) := rfl
theorem d44 : k2_pay44 rows y (bsel y) (Scalar.ofBits .f32 0xFF800000#32) = bidx (bst y 1) := rfl
theorem d45 : k2_pay45 rows y (bsel y) (Scalar.ofBits .f32 0xFF800000#32) = bst y 2 := rfl
theorem d46 : k2_pay46 rows y (bsel y) (Scalar.ofBits .f32 0xFF800000#32) = bmax (bst y 2) := rfl
theorem d47 : k2_pay47 rows y (bsel y) (Scalar.ofBits .f32 0xFF800000#32) = bidx (bst y 2) := rfl
theorem d48 : k2_pay48 rows y (bsel y) (Scalar.ofBits .f32 0xFF800000#32) = bst y 3 := rfl
theorem d49 : k2_pay49 rows y (bsel y) (Scalar.ofBits .f32 0xFF800000#32) = bmax (bst y 3) := rfl
theorem d50 : k2_pay50 rows y (bsel y) (Scalar.ofBits .f32 0xFF800000#32) = bidx (bst y 3) := rfl
theorem d51 : k2_pay51 rows y (bsel y) (Scalar.ofBits .f32 0xFF800000#32) = bst y 4 := rfl
theorem d52 : k2_pay52 rows y (bsel y) (Scalar.ofBits .f32 0xFF800000#32) = bmax (bst y 4) := rfl
theorem d53 : shapeCast S1x256 (k2_pay53 rows y (bsel y) (Scalar.ofBits .f32 0xFF800000#32)) shapeCasts_S256_S1x256 = bidx (bst y 4) := rfl
theorem e1 : k2_pay1 rows y (bidx y) = bst y 1 := rfl
theorem e2 : k2_pay2 y = bmax y := rfl

end Skeleton

section Out

variable (x : Vec Ideal S4096x256 .f32)

/-- The block a point reads. -/
abbrev blk : FVec Ideal S4096x256 .f32 := k2_pay6 (View.ld x r2_0)

/-- The iterates add up. -/
theorem bst_add (y : FVec Ideal S4096x256 .f32) (a : ℕ) : ∀ b, bst (bst y a) b = bst y (a + b)
  | 0 => rfl
  | b + 1 => by
      rw [← Nat.add_assoc]
      exact congrArg bnext (bst_add y a b)

theorem p54 : k2_pay54 x = rows := rfl
theorem p55 : k2_pay55 x = bst (blk x) 3 := a15 _
theorem p56 : k2_pay56 x = bhit (bst (blk x) 3) := a17 _
theorem p57 : k2_pay57 x = bst (blk x) 7 := by
  rw [k2_pay57, p54, p55, p56, b28, bst_add]
theorem p58 : k2_pay58 x = brmax (bst (blk x) 7) := by
  rw [k2_pay58, p54, p55, p56, b29, bst_add]
theorem p59 : k2_pay59 x = bst (blk x) 10 := by
  rw [k2_pay59, p54, p57, p58, c38, bst_add]
theorem p60 : k2_pay60 x = bsel (bst (blk x) 10) := by
  rw [k2_pay60, p54, p57, p58, c41, bst_add]
theorem p61 : k2_pay61 x = bidx (bst (blk x) 14) := by
  rw [k2_pay61, p54, p59, p60, d53, bst_add]
theorem p62 : k2_pay62 x = bst (blk x) 15 := by
  rw [k2_pay62, p54, p59, p60, p61, d51, bst_add]
  exact (e1 (bst (blk x) 14)).trans (bst_add (blk x) 14 1)
theorem p63 : k2_pay63 x = bmax (bst (blk x) 15) := by
  rw [k2_pay63, p62, e2]

/-- The stored weights: the softmax of the sixteen rounds' maxima. -/
theorem out2_1_eq : out2_1 x = View.canon [⟨r2_1, k2_pay4 (bmax (bst (blk x) 0)) (bmax (bst (blk x) 1)) (bmax (bst (blk x) 2))
    (bmax (bst (blk x) 3)) (bmax (bst (blk x) 4)) (bmax (bst (blk x) 5)) (bmax (bst (blk x) 6)) (bmax (bst (blk x) 7))
    (bmax (bst (blk x) 8)) (bmax (bst (blk x) 9)) (bmax (bst (blk x) 10)) (bmax (bst (blk x) 11)) (bmax (bst (blk x) 12))
    (bmax (bst (blk x) 13)) (bmax (bst (blk x) 14)) (bmax (bst (blk x) 15))⟩] := by
  unfold out2_1
  rw [p54, p55, p56, p57, p58, p59, p60, p63, a7, a10, a13, a16, b20, b23, b26, c30, c33, c36, c39, d43, d46, d49, d52]
  simp only [bst_add]

/-- The stored positions: the sixteen rounds'. -/
theorem out2_2_eq : out2_2 x = View.canon [⟨r2_1, k2_pay5 (bidx (bst (blk x) 0)) (bidx (bst (blk x) 1)) (bidx (bst (blk x) 2))
    (bidx (bst (blk x) 3)) (bidx (bst (blk x) 4)) (bidx (bst (blk x) 5)) (bidx (bst (blk x) 6)) (bidx (bst (blk x) 7))
    (bidx (bst (blk x) 8)) (bidx (bst (blk x) 9)) (bidx (bst (blk x) 10)) (bidx (bst (blk x) 11)) (bidx (bst (blk x) 12))
    (bidx (bst (blk x) 13)) (bidx (bst (blk x) 14)) (k2_pay3 rows (bst (blk x) 15) (bmax (bst (blk x) 15)))⟩] := by
  unfold out2_2
  rw [p54, p55, p56, p57, p58, p59, p60, p61, p62, p63, a8, a11, a14, b18, b21, b24, b27, c31, c34, c37, c40, d44, d47, d50]
  simp only [bst_add]

end Out

end Cert.KernelIdeal.Corr

end
-- ==== Proof.TopArr.lean ====
/- REGION 2, from the block to the array: a round at a column is a function of the column alone, and the two arrays
   hold each column's softmax weights and chosen positions. -/
module

public import proofs.«01_k».proof.Proof.Rounds

@[expose] public section

set_option maxRecDepth 16384

noncomputable section

namespace Cert.KernelIdeal.Corr

open Cert.KernelIdeal Cert.KernelIdeal.Gen
open Idealize.ShloMosaic Idealize.ShloMosaic.TcCoe Idealize.SL.Sem

/-! ## A round on a column -/

/-- A column's maximum. -/
def cmax (f : Fin 4096 → EReal) : EReal := Finset.univ.fold max (Ideal.ofBits .f32 0xFF800000#32) f

/-- The least position at which a column takes its maximum. -/
def cidx (f : Fin 4096 → EReal) : BitVec 32 :=
  Finset.univ.fold IntOp.minsi 2147483647#32 fun k => if f k = cmax f then BitVec.ofNat 32 k else 4096#32

/-- The column with its chosen entry overwritten by minus infinity. -/
def cnext (f : Fin 4096 → EReal) (k : Fin 4096) : EReal :=
  if BitVec.ofNat 32 k = cidx f then Ideal.ofBits .f32 0xFF800000#32 else f k

/-- The column after `n` rounds. -/
def cst (f : Fin 4096 → EReal) : ℕ → Fin 4096 → EReal
  | 0 => f
  | n + 1 => cnext (cst f n)

/-- A block's column. -/
def bcol (y : FVec Ideal S4096x256 .f32) (q : Fin 256) : Fin 4096 → EReal := fun k => y (ix2 k q)

/-- The maxima row at a column. -/
theorem bmax_apply (y : FVec Ideal S4096x256 .f32) (j : S1x256.Idx) : bmax y j = cmax (bcol y (j 1)) := by
  unfold cmax bcol
  pointwise [bmax]

/-- The positions row at a column. -/
theorem bidx_apply (y : FVec Ideal S4096x256 .f32) (j : S1x256.Idx) : bidx y j = cidx (bcol y (j 1)) := by
  unfold cidx
  pointwise [bidx, bmax_apply]
  rfl

/-- The maxima row at a column's index. -/
theorem bmax_row (y : FVec Ideal S4096x256 .f32) (q : Fin 256) : bmax y (ix2 0 q) = cmax (bcol y q) := bmax_apply y (ix2 0 q)

/-- The positions row at a column's index. -/
theorem bidx_row (y : FVec Ideal S4096x256 .f32) (q : Fin 256) : bidx y (ix2 0 q) = cidx (bcol y q) := bidx_apply y (ix2 0 q)

/-- The overwritten block at a column. -/
theorem bcol_bnext (y : FVec Ideal S4096x256 .f32) (q : Fin 256) : bcol (bnext y) q = cnext (bcol y q) := by
  funext k
  unfold cnext bcol
  pointwise [bnext, bidx_apply]
  change _ = if BitVec.ofNat 32 k = cidx (bcol y q) then _ else _
  by_cases h : BitVec.ofNat 32 k = cidx (bcol y q)
  · rw [if_pos h, h]
    simp [IntOp.cmpi, Scalar.select]
  · rw [if_neg h]
    simp only [IntOp.cmpi, Scalar.select, beq_eq_false_iff_ne.mpr h]
    rfl

/-- The iterated block at a column. -/
theorem bcol_bst (y : FVec Ideal S4096x256 .f32) (q : Fin 256) : ∀ n, bcol (bst y n) q = cst (bcol y q) n
  | 0 => rfl
  | n + 1 => by rw [bst, bcol_bnext, bcol_bst y q n]; rfl

/-! ## The stored blocks -/

/-- The softmax of sixteen numbers, each lowered by their maximum. -/
def soft (m : Fin 16 → EReal) (r : Fin 16) : EReal :=
  Ideal.div (Ideal.exp (m r - Finset.univ.fold max (Ideal.ofBits .f32 0xFF800000#32) m))
    (∑ k : Fin 16, Ideal.exp (m k - Finset.univ.fold max (Ideal.ofBits .f32 0xFF800000#32) m))

/-- Sixteen rows stacked, at an index. -/
theorem cat_apply {α : Type} (v : Fin 16 → S1x256.Idx → α) (r : Fin 16) (q : Fin 256) :
    concatenate S16x256 0 [⟨S1x256, v 0⟩, ⟨S1x256, v 1⟩, ⟨S1x256, v 2⟩, ⟨S1x256, v 3⟩, ⟨S1x256, v 4⟩, ⟨S1x256, v 5⟩, ⟨S1x256, v 6⟩, ⟨S1x256, v 7⟩, ⟨S1x256, v 8⟩, ⟨S1x256, v 9⟩, ⟨S1x256, v 10⟩, ⟨S1x256, v 11⟩, ⟨S1x256, v 12⟩, ⟨S1x256, v 13⟩, ⟨S1x256, v 14⟩, ⟨S1x256, v 15⟩] concatenates_S1x256_S1x256_S1x256_S1x256_S1x256_S1x256_S1x256_S1x256_S1x256_S1x256_S1x256_S1x256_S1x256_S1x256_S1x256_S1x256_S16x256_d0 (ix2 r q) = v r (ix2 0 q) := by
  fin_cases r <;> (dsimp only; pointwise)

/-- Sixteen rows stacked. -/
theorem cat_eq {α : Type} (v : Fin 16 → S1x256.Idx → α) :
    concatenate S16x256 0 [⟨S1x256, v 0⟩, ⟨S1x256, v 1⟩, ⟨S1x256, v 2⟩, ⟨S1x256, v 3⟩, ⟨S1x256, v 4⟩, ⟨S1x256, v 5⟩, ⟨S1x256, v 6⟩, ⟨S1x256, v 7⟩, ⟨S1x256, v 8⟩, ⟨S1x256, v 9⟩, ⟨S1x256, v 10⟩, ⟨S1x256, v 11⟩, ⟨S1x256, v 12⟩, ⟨S1x256, v 13⟩, ⟨S1x256, v 14⟩, ⟨S1x256, v 15⟩] concatenates_S1x256_S1x256_S1x256_S1x256_S1x256_S1x256_S1x256_S1x256_S1x256_S1x256_S1x256_S1x256_S1x256_S1x256_S1x256_S1x256_S16x256_d0
      = fun j => v (j 0) (ix2 0 (j 1)) := by
  funext j
  idx_vars j
  exact cat_apply v _ _

/-- The softmax of a block's columns. -/
def bsoft (x : FVec Ideal S16x256 .f32) : FVec Ideal S16x256 .f32 :=
  have m := broadcastTo S16x256 (shapeCast S1x256 (multiReduction .maximumf [0] S256 x 0xFF800000#32 reduces_S16x256_S256 (.inl rfl) rfl) shapeCasts_S256_S1x256) broadcasts_S1x256_S16x256
  have e := exp (subf x m)
  divf e (broadcastTo S16x256 (shapeCast S1x256 (multiReduction .add [0] S256 e 0x00000000#32 reduces_S16x256_S256 (.inl rfl) rfl) shapeCasts_S256_S1x256) broadcasts_S1x256_S16x256)

theorem bsoft_apply (x : FVec Ideal S16x256 .f32) (j : S16x256.Idx) : bsoft x j = soft (fun r => x (ix2 r (j 1))) (j 0) := by
  unfold soft
  idx_vars j
  pointwise [bsoft]

/-- The weights' block: the softmax of the sixteen rows. -/
theorem pay4_apply (v : Fin 16 → FVec Ideal S1x256 .f32) (j : S16x256.Idx) :
    k2_pay4 (v 0) (v 1) (v 2) (v 3) (v 4) (v 5) (v 6) (v 7) (v 8) (v 9) (v 10) (v 11) (v 12) (v 13) (v 14) (v 15) j = soft (fun r => v r (ix2 0 (j 1))) (j 0) := by
  have h : k2_pay4 (v 0) (v 1) (v 2) (v 3) (v 4) (v 5) (v 6) (v 7) (v 8) (v 9) (v 10) (v 11) (v 12) (v 13) (v 14) (v 15) = bsoft (fun j => v (j 0) (ix2 0 (j 1))) := congrArg bsoft (cat_eq v)
  rw [h, bsoft_apply]
  rfl

/-- The positions' block: the sixteen rows. -/
theorem pay5_apply (v : Fin 16 → FVec Ideal S4096x256 .f32) (j : S16x256.Idx) :
    k2_pay5 (bidx (v 0)) (bidx (v 1)) (bidx (v 2)) (bidx (v 3)) (bidx (v 4)) (bidx (v 5)) (bidx (v 6)) (bidx (v 7)) (bidx (v 8)) (bidx (v 9)) (bidx (v 10)) (bidx (v 11)) (bidx (v 12)) (bidx (v 13)) (bidx (v 14)) (k2_pay3 rows (v 15) (bmax (v 15))) j = bidx (v (j 0)) (ix2 0 (j 1)) :=
  congrFun (cat_eq fun r => bidx (v r)) j

/-- What the weights' array holds at a round and a column, from the column. -/
def topW (f : Fin 4096 → EReal) (r : Fin 16) : EReal := soft (fun r => cmax (cst f r)) r

/-- What the positions' array holds at a round and a column, from the column. -/
def topI (f : Fin 4096 → EReal) (r : Fin 16) : BitVec 32 := cidx (cst f r)

/-- The weights' block from the block read. -/
theorem pay4_bst (x : FVec Ideal S4096x256 .f32) (j : S16x256.Idx) : k2_pay4 (bmax (bst x 0)) (bmax (bst x 1)) (bmax (bst x 2)) (bmax (bst x 3)) (bmax (bst x 4)) (bmax (bst x 5)) (bmax (bst x 6)) (bmax (bst x 7)) (bmax (bst x 8)) (bmax (bst x 9)) (bmax (bst x 10)) (bmax (bst x 11)) (bmax (bst x 12)) (bmax (bst x 13)) (bmax (bst x 14)) (bmax (bst x 15)) j = topW (bcol x (j 1)) (j 0) := by
  refine (pay4_apply (fun r => bmax (bst x r)) j).trans ?_
  refine congrArg (fun m => soft m (j 0)) (funext fun r =>
    (bmax_row _ _).trans (congrArg cmax (bcol_bst x (j 1) r)))

/-- The positions' block from the block read. -/
theorem pay5_bst (x : FVec Ideal S4096x256 .f32) (j : S16x256.Idx) :
    k2_pay5 (bidx (bst x 0)) (bidx (bst x 1)) (bidx (bst x 2)) (bidx (bst x 3)) (bidx (bst x 4)) (bidx (bst x 5)) (bidx (bst x 6)) (bidx (bst x 7)) (bidx (bst x 8)) (bidx (bst x 9)) (bidx (bst x 10)) (bidx (bst x 11)) (bidx (bst x 12)) (bidx (bst x 13)) (bidx (bst x 14)) (k2_pay3 rows (bst x 15) (bmax (bst x 15))) j = topI (bcol x (j 1)) (j 0) := by
  refine (pay5_apply (fun r => bst x r) j).trans ?_
  exact (bidx_row _ _).trans (congrArg cidx (bcol_bst x (j 1) (j 0).val))

variable (V : (c : Dev nD) → (b : Ref sig .tc) → Buf (Elt Ideal) ((c : Thread nD τ).loc b))

/-- The windows' block indices in closed form. -/
theorem top_idx : ∀ t : Fin cfg2.N, win2_0.index t = ![0, t.val] ∧ win2_1.index t = ![0, t.val] ∧ win2_2.index t = ![0, t.val] :=
  (by decide +kernel : ∀ t : Fin grid2.N, _)

/-- The block of a point, at one of its columns. -/
theorem blk_col (c : Dev nD) (t : Fin cfg2.N) (q : Fin 256) (h : t.val * 256 + q < 3072) :
    bcol (blk (iblk2 V c 0 t)) q = fun k => V c main_v19 (ix2 k ⟨t.val * 256 + q, h⟩) := by
  funext k
  unfold bcol
  pointwise [k2_pay6]
  blk_point [iblk2, top_idx t]

/-- Region 2's weights. -/
theorem top_arr1 (c : Dev nD) :
    (dat2 V c).arrAt 1 cfg2.N = fun j : S16x3072.Idx => topW (fun k => V c main_v19 (ix2 k (j 1))) (j 0) := by
  refine (dat2 V c).arrAt_eq_of_covers 1 (fun j : S16x3072.Idx => topW (fun k => V c main_v19 (ix2 k (j 1))) (j 0)) (by decide +kernel) fun t hf y => ?_
  have ht : t.val < 12 := t.isLt
  have hy : (y 1).val < 256 := (y 1).isLt
  blk_simp
  rw [Gen.after2_1, out2_1_eq, View.canon_cons_unit_lit _ _ _ (by decide)]
  refine (pay4_bst (blk (iblk2 V c 0 t)) y).trans ((congrArg (fun f => topW f (y 0)) (blk_col V c t (y 1) (by omega))).trans ?_)
  blk_point [top_idx t]

/-- Region 2's positions. -/
theorem top_arr2 (c : Dev nD) :
    (dat2 V c).arrAt 2 cfg2.N = fun j : S16x3072.Idx => topI (fun k => V c main_v19 (ix2 k (j 1))) (j 0) := by
  refine (dat2 V c).arrAt_eq_of_covers 2 (fun j : S16x3072.Idx => topI (fun k => V c main_v19 (ix2 k (j 1))) (j 0)) (by decide +kernel) fun t hf y => ?_
  have ht : t.val < 12 := t.isLt
  have hy : (y 1).val < 256 := (y 1).isLt
  blk_simp
  rw [Gen.after2_2, out2_2_eq, View.canon_cons_unit_lit _ _ _ (by decide)]
  refine (pay5_bst (blk (iblk2 V c 0 t)) y).trans ((congrArg (fun f => topI f (y 0)) (blk_col V c t (y 1) (by omega))).trans ?_)
  blk_point [top_idx t]

end Cert.KernelIdeal.Corr

end
-- ==== Proof.Shift.lean ====
/- REGION 3's shifts at one block: the block is moved up by each power of two whose bit the column's position holds, rows
   past the end repeating the last one; twelve such steps move a column up by the position itself. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Corr

open Cert.KernelIdeal Cert.KernelIdeal.Gen
open Idealize.ShloMosaic Idealize.ShloMosaic.TcCoe Idealize.SL.Sem

/-! ## One step -/

/-- Whether a position holds the bit `k`. -/
def bit (i k : BitVec 32) : BitVec 1 := IntOp.cmpi .eq (IntOp.andi (IntOp.shrsi .vector i k) 1#32) 1#32

/-- The row `s` further down, or the last one. -/
def low (s : ℕ) (t : Fin 4096) : Fin 4096 := ⟨min (t.val + s) 4095, by omega⟩

/-- One step at a column: moved up by `s` rows where the position holds the bit. -/
def shf (k : BitVec 32) (s : ℕ) (i : BitVec 32) (f : Fin 4096 → EReal) (t : Fin 4096) : EReal :=
  Scalar.select (bit i k) (f (low s t)) (f t)

/-- The columns whose position holds the bit `k`, over the block. -/
def bmask (v : IVec S1x256 32) (k : BitVec 32) : IVec S4096x256 1 :=
  broadcastTo S4096x256 (shapeCast S1x256 (cmpi .eq (andi (shrsi v (broadcast S1x256 k)) (broadcast S1x256 1#32)) (broadcast S1x256 1#32))
    shapeCasts_S1x256_S1x256) broadcasts_S1x256_S4096x256

/-- The block moved up by 1. -/
def up0 (u : FVec Ideal S4096x256 .f32) : FVec Ideal S4096x256 .f32 :=
  concatenate S4096x256 0 [⟨S4095x256, extractStridedSlice S4095x256 ![1, 0] u slices_S4096x256_o1_0_S4095x256⟩,
    ⟨S1x256, extractStridedSlice S1x256 ![4095, 0] u slices_S4096x256_o4095_0_S1x256⟩]
    concatenates_S4095x256_S1x256_S4096x256_d0

theorem up0_apply (u : FVec Ideal S4096x256 .f32) (t : Fin 4096) (q : Fin 256) : up0 u (ix2 t q) = u (ix2 (low 1 t) q) := by
  unfold low
  pointwise [up0]
  split <;> (refine congrArg (fun r => u (ix2 r q)) (Fin.ext ?_); simp only []; omega)

/-- The step of bit 0. -/
def step0 (v : IVec S1x256 32) (u : FVec Ideal S4096x256 .f32) : FVec Ideal S4096x256 .f32 := select (bmask v 0#32) (up0 u) u

theorem step0_col (v : IVec S1x256 32) (u : FVec Ideal S4096x256 .f32) (q : Fin 256) :
    (fun t => step0 v u (ix2 t q)) = shf 0#32 1 (v (ix2 0 q)) fun t => u (ix2 t q) := by
  funext t
  unfold shf bit
  pointwise [step0, bmask, up0_apply]

/-- The block moved up by 2. -/
def up1 (u : FVec Ideal S4096x256 .f32) : FVec Ideal S4096x256 .f32 :=
  concatenate S4096x256 0 [⟨S4094x256, extractStridedSlice S4094x256 ![2, 0] u slices_S4096x256_o2_0_S4094x256⟩,
    ⟨S2x256, broadcastTo S2x256 (shapeCast S1x256 (extractStridedSlice S1x256 ![4095, 0] u slices_S4096x256_o4095_0_S1x256) shapeCasts_S1x256_S1x256) broadcasts_S1x256_S2x256⟩]
    concatenates_S4094x256_S2x256_S4096x256_d0

theorem up1_apply (u : FVec Ideal S4096x256 .f32) (t : Fin 4096) (q : Fin 256) : up1 u (ix2 t q) = u (ix2 (low 2 t) q) := by
  unfold low
  pointwise [up1]
  split <;> (congr 2; apply Fin.ext; dsimp only; omega)

/-- The step of bit 1. -/
def step1 (v : IVec S1x256 32) (u : FVec Ideal S4096x256 .f32) : FVec Ideal S4096x256 .f32 := select (bmask v 1#32) (up1 u) u

theorem step1_col (v : IVec S1x256 32) (u : FVec Ideal S4096x256 .f32) (q : Fin 256) :
    (fun t => step1 v u (ix2 t q)) = shf 1#32 2 (v (ix2 0 q)) fun t => u (ix2 t q) := by
  funext t
  unfold shf bit
  pointwise [step1, bmask, up1_apply]

/-- The block moved up by 4. -/
def up2 (u : FVec Ideal S4096x256 .f32) : FVec Ideal S4096x256 .f32 :=
  concatenate S4096x256 0 [⟨S4092x256, extractStridedSlice S4092x256 ![4, 0] u slices_S4096x256_o4_0_S4092x256⟩,
    ⟨S4x256, broadcastTo S4x256 (shapeCast S1x256 (extractStridedSlice S1x256 ![4095, 0] u slices_S4096x256_o4095_0_S1x256) shapeCasts_S1x256_S1x256) broadcasts_S1x256_S4x256⟩]
    concatenates_S4092x256_S4x256_S4096x256_d0

theorem up2_apply (u : FVec Ideal S4096x256 .f32) (t : Fin 4096) (q : Fin 256) : up2 u (ix2 t q) = u (ix2 (low 4 t) q) := by
  unfold low
  pointwise [up2]
  split <;> (congr 2; apply Fin.ext; dsimp only; omega)

/-- The step of bit 2. -/
def step2 (v : IVec S1x256 32) (u : FVec Ideal S4096x256 .f32) : FVec Ideal S4096x256 .f32 := select (bmask v 2#32) (up2 u) u

theorem step2_col (v : IVec S1x256 32) (u : FVec Ideal S4096x256 .f32) (q : Fin 256) :
    (fun t => step2 v u (ix2 t q)) = shf 2#32 4 (v (ix2 0 q)) fun t => u (ix2 t q) := by
  funext t
  unfold shf bit
  pointwise [step2, bmask, up2_apply]

/-- The block moved up by 8. -/
def up3 (u : FVec Ideal S4096x256 .f32) : FVec Ideal S4096x256 .f32 :=
  concatenate S4096x256 0 [⟨S4088x256, extractStridedSlice S4088x256 ![8, 0] u slices_S4096x256_o8_0_S4088x256⟩,
    ⟨S8x256, broadcastTo S8x256 (shapeCast S1x256 (extractStridedSlice S1x256 ![4095, 0] u slices_S4096x256_o4095_0_S1x256) shapeCasts_S1x256_S1x256) broadcasts_S1x256_S8x256⟩]
    concatenates_S4088x256_S8x256_S4096x256_d0

theorem up3_apply (u : FVec Ideal S4096x256 .f32) (t : Fin 4096) (q : Fin 256) : up3 u (ix2 t q) = u (ix2 (low 8 t) q) := by
  unfold low
  pointwise [up3]
  split <;> (congr 2; apply Fin.ext; dsimp only; omega)

/-- The step of bit 3. -/
def step3 (v : IVec S1x256 32) (u : FVec Ideal S4096x256 .f32) : FVec Ideal S4096x256 .f32 := select (bmask v 3#32) (up3 u) u

theorem step3_col (v : IVec S1x256 32) (u : FVec Ideal S4096x256 .f32) (q : Fin 256) :
    (fun t => step3 v u (ix2 t q)) = shf 3#32 8 (v (ix2 0 q)) fun t => u (ix2 t q) := by
  funext t
  unfold shf bit
  pointwise [step3, bmask, up3_apply]

/-- The block moved up by 16. -/
def up4 (u : FVec Ideal S4096x256 .f32) : FVec Ideal S4096x256 .f32 :=
  concatenate S4096x256 0 [⟨S4080x256, extractStridedSlice S4080x256 ![16, 0] u slices_S4096x256_o16_0_S4080x256⟩,
    ⟨S16x256, broadcastTo S16x256 (shapeCast S1x256 (extractStridedSlice S1x256 ![4095, 0] u slices_S4096x256_o4095_0_S1x256) shapeCasts_S1x256_S1x256) broadcasts_S1x256_S16x256⟩]
    concatenates_S4080x256_S16x256_S4096x256_d0

theorem up4_apply (u : FVec Ideal S4096x256 .f32) (t : Fin 4096) (q : Fin 256) : up4 u (ix2 t q) = u (ix2 (low 16 t) q) := by
  unfold low
  pointwise [up4]
  split <;> (congr 2; apply Fin.ext; dsimp only; omega)

/-- The step of bit 4. -/
def step4 (v : IVec S1x256 32) (u : FVec Ideal S4096x256 .f32) : FVec Ideal S4096x256 .f32 := select (bmask v 4#32) (up4 u) u

theorem step4_col (v : IVec S1x256 32) (u : FVec Ideal S4096x256 .f32) (q : Fin 256) :
    (fun t => step4 v u (ix2 t q)) = shf 4#32 16 (v (ix2 0 q)) fun t => u (ix2 t q) := by
  funext t
  unfold shf bit
  pointwise [step4, bmask, up4_apply]

/-- The block moved up by 32. -/
def up5 (u : FVec Ideal S4096x256 .f32) : FVec Ideal S4096x256 .f32 :=
  concatenate S4096x256 0 [⟨S4064x256, extractStridedSlice S4064x256 ![32, 0] u slices_S4096x256_o32_0_S4064x256⟩,
    ⟨S32x256, broadcastTo S32x256 (shapeCast S1x256 (extractStridedSlice S1x256 ![4095, 0] u slices_S4096x256_o4095_0_S1x256) shapeCasts_S1x256_S1x256) broadcasts_S1x256_S32x256⟩]
    concatenates_S4064x256_S32x256_S4096x256_d0

theorem up5_apply (u : FVec Ideal S4096x256 .f32) (t : Fin 4096) (q : Fin 256) : up5 u (ix2 t q) = u (ix2 (low 32 t) q) := by
  unfold low
  pointwise [up5]
  split <;> (congr 2; apply Fin.ext; dsimp only; omega)

/-- The step of bit 5. -/
def step5 (v : IVec S1x256 32) (u : FVec Ideal S4096x256 .f32) : FVec Ideal S4096x256 .f32 := select (bmask v 5#32) (up5 u) u

theorem step5_col (v : IVec S1x256 32) (u : FVec Ideal S4096x256 .f32) (q : Fin 256) :
    (fun t => step5 v u (ix2 t q)) = shf 5#32 32 (v (ix2 0 q)) fun t => u (ix2 t q) := by
  funext t
  unfold shf bit
  pointwise [step5, bmask, up5_apply]

/-- The block moved up by 64. -/
def up6 (u : FVec Ideal S4096x256 .f32) : FVec Ideal S4096x256 .f32 :=
  concatenate S4096x256 0 [⟨S4032x256, extractStridedSlice S4032x256 ![64, 0] u slices_S4096x256_o64_0_S4032x256⟩,
    ⟨S64x256, broadcastTo S64x256 (shapeCast S1x256 (extractStridedSlice S1x256 ![4095, 0] u slices_S4096x256_o4095_0_S1x256) shapeCasts_S1x256_S1x256) broadcasts_S1x256_S64x256⟩]
    concatenates_S4032x256_S64x256_S4096x256_d0

theorem up6_apply (u : FVec Ideal S4096x256 .f32) (t : Fin 4096) (q : Fin 256) : up6 u (ix2 t q) = u (ix2 (low 64 t) q) := by
  unfold low
  pointwise [up6]
  split <;> (congr 2; apply Fin.ext; dsimp only; omega)

/-- The step of bit 6. -/
def step6 (v : IVec S1x256 32) (u : FVec Ideal S4096x256 .f32) : FVec Ideal S4096x256 .f32 := select (bmask v 6#32) (up6 u) u

theorem step6_col (v : IVec S1x256 32) (u : FVec Ideal S4096x256 .f32) (q : Fin 256) :
    (fun t => step6 v u (ix2 t q)) = shf 6#32 64 (v (ix2 0 q)) fun t => u (ix2 t q) := by
  funext t
  unfold shf bit
  pointwise [step6, bmask, up6_apply]

/-- The block moved up by 128. -/
def up7 (u : FVec Ideal S4096x256 .f32) : FVec Ideal S4096x256 .f32 :=
  concatenate S4096x256 0 [⟨S3968x256, extractStridedSlice S3968x256 ![128, 0] u slices_S4096x256_o128_0_S3968x256⟩,
    ⟨S128x256, broadcastTo S128x256 (shapeCast S1x256 (extractStridedSlice S1x256 ![4095, 0] u slices_S4096x256_o4095_0_S1x256) shapeCasts_S1x256_S1x256) broadcasts_S1x256_S128x256⟩]
    concatenates_S3968x256_S128x256_S4096x256_d0

theorem up7_apply (u : FVec Ideal S4096x256 .f32) (t : Fin 4096) (q : Fin 256) : up7 u (ix2 t q) = u (ix2 (low 128 t) q) := by
  unfold low
  pointwise [up7]
  split <;> (congr 2; apply Fin.ext; dsimp only; omega)

/-- The step of bit 7. -/
def step7 (v : IVec S1x256 32) (u : FVec Ideal S4096x256 .f32) : FVec Ideal S4096x256 .f32 := select (bmask v 7#32) (up7 u) u

theorem step7_col (v : IVec S1x256 32) (u : FVec Ideal S4096x256 .f32) (q : Fin 256) :
    (fun t => step7 v u (ix2 t q)) = shf 7#32 128 (v (ix2 0 q)) fun t => u (ix2 t q) := by
  funext t
  unfold shf bit
  pointwise [step7, bmask, up7_apply]

/-- The block moved up by 256. -/
def up8 (u : FVec Ideal S4096x256 .f32) : FVec Ideal S4096x256 .f32 :=
  concatenate S4096x256 0 [⟨S3840x256, extractStridedSlice S3840x256 ![256, 0] u slices_S4096x256_o256_0_S3840x256⟩,
    ⟨S256x256, broadcastTo S256x256 (shapeCast S1x256 (extractStridedSlice S1x256 ![4095, 0] u slices_S4096x256_o4095_0_S1x256) shapeCasts_S1x256_S1x256) broadcasts_S1x256_S256x256⟩]
    concatenates_S3840x256_S256x256_S4096x256_d0

theorem up8_apply (u : FVec Ideal S4096x256 .f32) (t : Fin 4096) (q : Fin 256) : up8 u (ix2 t q) = u (ix2 (low 256 t) q) := by
  unfold low
  pointwise [up8]
  split <;> (congr 2; apply Fin.ext; dsimp only; omega)

/-- The step of bit 8. -/
def step8 (v : IVec S1x256 32) (u : FVec Ideal S4096x256 .f32) : FVec Ideal S4096x256 .f32 := select (bmask v 8#32) (up8 u) u

theorem step8_col (v : IVec S1x256 32) (u : FVec Ideal S4096x256 .f32) (q : Fin 256) :
    (fun t => step8 v u (ix2 t q)) = shf 8#32 256 (v (ix2 0 q)) fun t => u (ix2 t q) := by
  funext t
  unfold shf bit
  pointwise [step8, bmask, up8_apply]

/-- The block moved up by 512. -/
def up9 (u : FVec Ideal S4096x256 .f32) : FVec Ideal S4096x256 .f32 :=
  concatenate S4096x256 0 [⟨S3584x256, extractStridedSlice S3584x256 ![512, 0] u slices_S4096x256_o512_0_S3584x256⟩,
    ⟨S512x256, broadcastTo S512x256 (shapeCast S1x256 (extractStridedSlice S1x256 ![4095, 0] u slices_S4096x256_o4095_0_S1x256) shapeCasts_S1x256_S1x256) broadcasts_S1x256_S512x256⟩]
    concatenates_S3584x256_S512x256_S4096x256_d0

theorem up9_apply (u : FVec Ideal S4096x256 .f32) (t : Fin 4096) (q : Fin 256) : up9 u (ix2 t q) = u (ix2 (low 512 t) q) := by
  unfold low
  pointwise [up9]
  split <;> (congr 2; apply Fin.ext; dsimp only; omega)

/-- The step of bit 9. -/
def step9 (v : IVec S1x256 32) (u : FVec Ideal S4096x256 .f32) : FVec Ideal S4096x256 .f32 := select (bmask v 9#32) (up9 u) u

theorem step9_col (v : IVec S1x256 32) (u : FVec Ideal S4096x256 .f32) (q : Fin 256) :
    (fun t => step9 v u (ix2 t q)) = shf 9#32 512 (v (ix2 0 q)) fun t => u (ix2 t q) := by
  funext t
  unfold shf bit
  pointwise [step9, bmask, up9_apply]

/-- The block moved up by 1024. -/
def up10 (u : FVec Ideal S4096x256 .f32) : FVec Ideal S4096x256 .f32 :=
  concatenate S4096x256 0 [⟨S3072x256, extractStridedSlice S3072x256 ![1024, 0] u slices_S4096x256_o1024_0_S3072x256⟩,
    ⟨S1024x256, broadcastTo S1024x256 (shapeCast S1x256 (extractStridedSlice S1x256 ![4095, 0] u slices_S4096x256_o4095_0_S1x256) shapeCasts_S1x256_S1x256) broadcasts_S1x256_S1024x256⟩]
    concatenates_S3072x256_S1024x256_S4096x256_d0

theorem up10_apply (u : FVec Ideal S4096x256 .f32) (t : Fin 4096) (q : Fin 256) : up10 u (ix2 t q) = u (ix2 (low 1024 t) q) := by
  unfold low
  pointwise [up10]
  split <;> (congr 2; apply Fin.ext; dsimp only; omega)

/-- The step of bit 10. -/
def step10 (v : IVec S1x256 32) (u : FVec Ideal S4096x256 .f32) : FVec Ideal S4096x256 .f32 := select (bmask v 10#32) (up10 u) u

theorem step10_col (v : IVec S1x256 32) (u : FVec Ideal S4096x256 .f32) (q : Fin 256) :
    (fun t => step10 v u (ix2 t q)) = shf 10#32 1024 (v (ix2 0 q)) fun t => u (ix2 t q) := by
  funext t
  unfold shf bit
  pointwise [step10, bmask, up10_apply]

/-- The block moved up by 2048. -/
def up11 (u : FVec Ideal S4096x256 .f32) : FVec Ideal S4096x256 .f32 :=
  concatenate S4096x256 0 [⟨S2048x256, extractStridedSlice S2048x256 ![2048, 0] u slices_S4096x256_o2048_0_S2048x256⟩,
    ⟨S2048x256, broadcastTo S2048x256 (shapeCast S1x256 (extractStridedSlice S1x256 ![4095, 0] u slices_S4096x256_o4095_0_S1x256) shapeCasts_S1x256_S1x256) broadcasts_S1x256_S2048x256⟩]
    concatenates_S2048x256_S2048x256_S4096x256_d0

theorem up11_apply (u : FVec Ideal S4096x256 .f32) (t : Fin 4096) (q : Fin 256) : up11 u (ix2 t q) = u (ix2 (low 2048 t) q) := by
  unfold low
  pointwise [up11]
  split <;> (congr 2; apply Fin.ext; dsimp only; omega)

/-- The step of bit 11. -/
def step11 (v : IVec S1x256 32) (u : FVec Ideal S4096x256 .f32) : FVec Ideal S4096x256 .f32 := select (bmask v 11#32) (up11 u) u

theorem step11_col (v : IVec S1x256 32) (u : FVec Ideal S4096x256 .f32) (q : Fin 256) :
    (fun t => step11 v u (ix2 t q)) = shf 11#32 2048 (v (ix2 0 q)) fun t => u (ix2 t q) := by
  funext t
  unfold shf bit
  pointwise [step11, bmask, up11_apply]

/-! ## The twelve steps -/

/-- The twelve steps on a block. -/
def steps (v : IVec S1x256 32) (u : FVec Ideal S4096x256 .f32) : FVec Ideal S4096x256 .f32 :=
  step11 v (step10 v (step9 v (step8 v (step7 v (step6 v (step5 v (step4 v (step3 v (step2 v (step1 v (step0 v u)))))))))))

/-- The twelve steps at a column. -/
def moved (i : BitVec 32) (f : Fin 4096 → EReal) : Fin 4096 → EReal :=
  shf 11#32 2048 i (shf 10#32 1024 i (shf 9#32 512 i (shf 8#32 256 i (shf 7#32 128 i (shf 6#32 64 i (shf 5#32 32 i (shf 4#32 16 i (shf 3#32 8 i (shf 2#32 4 i (shf 1#32 2 i (shf 0#32 1 i f)))))))))))

theorem steps_col (v : IVec S1x256 32) (u : FVec Ideal S4096x256 .f32) (q : Fin 256) :
    (fun t => steps v u (ix2 t q)) = moved (v (ix2 0 q)) fun t => u (ix2 t q) := by
  unfold steps moved
  rw [step11_col, step10_col, step9_col, step8_col, step7_col, step6_col, step5_col, step4_col, step3_col, step2_col, step1_col, step0_col]

/-- The product of the weights' row and a block, added to what is there. -/
def addTo (acc : Vec Ideal S4096x256 .f32) (w : Vec Ideal S1x1x256 .f32) (u : FVec Ideal S4096x256 .f32) : FVec Ideal S4096x256 .f32 :=
  addf (shapeCast S4096x256 acc shapeCasts_S4096x256_S4096x256)
    (mulf (broadcastTo S4096x256 (shapeCast S1x256 w shapeCasts_S1x1x256_S1x256) broadcasts_S1x256_S4096x256) u)

section Skeleton

variable (x : Vec Ideal S4096x256 .f32) (i : Vec Ideal S1x1x256 .i32) (w : Vec Ideal S1x1x256 .f32)
  (acc u : FVec Ideal S4096x256 .f32) (v : IVec S1x256 32)

theorem g4 : k3_pay4 x i = step1 (k3_pay3 i) (step0 (k3_pay3 i) (shapeCast S4096x256 x shapeCasts_S4096x256_S4096x256)) := rfl
theorem g5 : k3_pay5 x i = up2 (k3_pay4 x i) := rfl
theorem g7 : k3_pay7 v u (up2 u) (andi (shrsi v (broadcast S1x256 2#32)) (broadcast S1x256 1#32)) = step5 v (step4 v (step3 v (step2 v u))) := rfl
theorem g6 : k3_pay6 i = andi (shrsi (k3_pay3 i) (broadcast S1x256 2#32)) (broadcast S1x256 1#32) := rfl
theorem g8 : k3_pay8 v u (up2 u) (andi (shrsi v (broadcast S1x256 2#32)) (broadcast S1x256 1#32))
    = broadcastTo S64x256 (shapeCast S1x256 (extractStridedSlice S1x256 ![4095, 0] (step5 v (step4 v (step3 v (step2 v u)))) slices_S4096x256_o4095_0_S1x256) shapeCasts_S1x256_S1x256) broadcasts_S1x256_S64x256 := rfl
theorem g9 : k3_pay9 v u (broadcastTo S64x256 (shapeCast S1x256 (extractStridedSlice S1x256 ![4095, 0] u slices_S4096x256_o4095_0_S1x256) shapeCasts_S1x256_S1x256) broadcasts_S1x256_S64x256)
    = step8 v (step7 v (step6 v u)) := rfl
theorem g10 : k3_pay10 v u (broadcastTo S64x256 (shapeCast S1x256 (extractStridedSlice S1x256 ![4095, 0] u slices_S4096x256_o4095_0_S1x256) shapeCasts_S1x256_S1x256) broadcasts_S1x256_S64x256)
    = up9 (step8 v (step7 v (step6 v u))) := rfl
theorem g1 : k3_pay1 v u (up9 u) (k3_pay11 v) 1#32 acc w = addTo acc w (step11 v (step10 v (step9 v u))) := rfl

/-- What a point stores: the moved block weighted and added. -/
theorem g_all : k3_pay1 (k3_pay3 i)
      (k3_pay9 (k3_pay3 i) (k3_pay7 (k3_pay3 i) (k3_pay4 x i) (k3_pay5 x i) (k3_pay6 i)) (k3_pay8 (k3_pay3 i) (k3_pay4 x i) (k3_pay5 x i) (k3_pay6 i)))
      (k3_pay10 (k3_pay3 i) (k3_pay7 (k3_pay3 i) (k3_pay4 x i) (k3_pay5 x i) (k3_pay6 i)) (k3_pay8 (k3_pay3 i) (k3_pay4 x i) (k3_pay5 x i) (k3_pay6 i)))
      (k3_pay11 (k3_pay3 i)) 1#32 acc w
    = addTo acc w (steps (k3_pay3 i) (shapeCast S4096x256 x shapeCasts_S4096x256_S4096x256)) := by
  rw [g6, g5, g7, g8, g9, g10, g1, g4]
  rfl

end Skeleton

end Cert.KernelIdeal.Corr

end
-- ==== Proof.Gather.lean ====
/- REGION 3, from the block to the array: twelve steps move a column up by its position, and the result array holds the
   sixteen weighted moved columns added up. -/
module

public import proofs.«01_k».proof.Proof.Shift

@[expose] public section

set_option maxRecDepth 16384

noncomputable section

namespace Cert.KernelIdeal.Corr

open Cert.KernelIdeal Cert.KernelIdeal.Gen
open Idealize.ShloMosaic Idealize.ShloMosaic.TcCoe Idealize.SL.Sem

/-! ## Twelve steps move by the position -/

/-- A position below 4096 holds the bit `k` where its quotient by `2 ^ k` is odd. -/
theorem bit_eq (i : BitVec 32) (hi : i.toNat < 4096) (k : ℕ) (hk : k < 12) :
    bit i (BitVec.ofNat 32 k) = if i.toNat / 2 ^ k % 2 = 1 then 1#1 else 0#1 := by
  have hkn : (BitVec.ofNat 32 k).toNat = k := by rw [BitVec.toNat_ofNat]; exact Nat.mod_eq_of_lt (by omega)
  have hm : i.msb = false := by rw [BitVec.msb_eq_decide]; simp; omega
  have h1 : IntOp.andi (IntOp.shrsi .vector i (BitVec.ofNat 32 k)) 1#32 = BitVec.ofNat 32 (i.toNat / 2 ^ k % 2) := by
    apply BitVec.eq_of_toNat_eq
    simp only [IntOp.andi, IntOp.shrsi, hkn, show k < 32 by omega, if_true, BitVec.sshiftRight', BitVec.sshiftRight_eq_of_msb_false hm]
    rw [BitVec.toNat_and, BitVec.toNat_ushiftRight, BitVec.toNat_ofNat, BitVec.toNat_ofNat, Nat.shiftRight_eq_div_pow]
    rw [show 1 % 2 ^ 32 = 1 by decide, Nat.and_one_is_mod]
    omega
  unfold bit
  rw [h1]
  rcases Nat.mod_two_eq_zero_or_one (i.toNat / 2 ^ k) with h | h <;> rw [h] <;> rfl

/-- One step extends the move by one more bit. -/
theorem shf_eq (i : BitVec 32) (hi : i.toNat < 4096) (k : ℕ) (hk : k < 12) (f g : Fin 4096 → EReal)
    (h : ∀ t, g t = f (low (i.toNat % 2 ^ k) t)) (t : Fin 4096) :
    shf (BitVec.ofNat 32 k) (2 ^ k) i g t = f (low (i.toNat % 2 ^ (k + 1)) t) := by
  have hs : i.toNat % 2 ^ (k + 1) = i.toNat % 2 ^ k + 2 ^ k * (i.toNat / 2 ^ k % 2) := by
    rw [Nat.pow_succ, Nat.mod_mul]
  unfold shf
  rw [bit_eq i hi k hk, hs]
  rcases Nat.mod_two_eq_zero_or_one (i.toNat / 2 ^ k) with h2 | h2 <;> rw [h2]
  · rw [if_neg (by decide), Nat.mul_zero, Nat.add_zero]
    exact h t
  · rw [if_pos rfl, Nat.mul_one]
    refine (h _).trans (congrArg f (Fin.ext ?_))
    simp only [low]
    omega

/-- The twelve steps: the column moved up by the position. -/
theorem moved_eq (i : BitVec 32) (hi : i.toNat < 4096) (f : Fin 4096 → EReal) (t : Fin 4096) :
    moved i f t = f (low i.toNat t) := by
  have h0 : ∀ t, f t = f (low (i.toNat % 2 ^ 0) t) := fun t => congrArg f (Fin.ext (by simp only [low]; omega))
  have h1 := shf_eq i hi 0 (by decide) f _ h0
  have h2 := shf_eq i hi 1 (by decide) f _ h1
  have h3 := shf_eq i hi 2 (by decide) f _ h2
  have h4 := shf_eq i hi 3 (by decide) f _ h3
  have h5 := shf_eq i hi 4 (by decide) f _ h4
  have h6 := shf_eq i hi 5 (by decide) f _ h5
  have h7 := shf_eq i hi 6 (by decide) f _ h6
  have h8 := shf_eq i hi 7 (by decide) f _ h7
  have h9 := shf_eq i hi 8 (by decide) f _ h8
  have h10 := shf_eq i hi 9 (by decide) f _ h9
  have h11 := shf_eq i hi 10 (by decide) f _ h10
  have h12 := shf_eq i hi 11 (by decide) f _ h11
  refine (h12 t).trans ?_
  rw [Nat.mod_eq_of_lt (by simpa using hi)]

/-! ## The array -/

/-- What a point adds, at an index. -/
theorem addTo_apply (acc : Vec Ideal S4096x256 .f32) (w : Vec Ideal S1x1x256 .f32) (u : FVec Ideal S4096x256 .f32) (j : S4096x256.Idx) :
    addTo acc w u j = acc j + w (ix3 0 0 (j 1)) * u j := by
  pointwise [addTo]

/-- The block a run starts from is zero. -/
theorem gather_zero (j) : k3_pay2 (F := Ideal) j = 0 := by pointwise [k3_pay2]

/-- The positions' row of a point. -/
theorem pay3_apply (i : Vec Ideal S1x1x256 .i32) (q : Fin 256) : k3_pay3 (F := Ideal) i (ix2 0 q) = i (ix3 0 0 q) := by
  pointwise [k3_pay3]

/-- A block cast to its own shape. -/
theorem cast_self (x : Vec Ideal S4096x256 .f32) : shapeCast S4096x256 x shapeCasts_S4096x256_S4096x256 = x := by
  funext j
  pointwise

/-- What a point stores, at an index: the column moved up by its position, weighted and added. -/
theorem gather_pay (x acc : Vec Ideal S4096x256 .f32) (w : Vec Ideal S1x1x256 .f32) (i : Vec Ideal S1x1x256 .i32) (j : S4096x256.Idx) :
    k3_pay1 (k3_pay3 i)
      (k3_pay9 (k3_pay3 i) (k3_pay7 (k3_pay3 i) (k3_pay4 x i) (k3_pay5 x i) (k3_pay6 i)) (k3_pay8 (k3_pay3 i) (k3_pay4 x i) (k3_pay5 x i) (k3_pay6 i)))
      (k3_pay10 (k3_pay3 i) (k3_pay7 (k3_pay3 i) (k3_pay4 x i) (k3_pay5 x i) (k3_pay6 i)) (k3_pay8 (k3_pay3 i) (k3_pay4 x i) (k3_pay5 x i) (k3_pay6 i)))
      (k3_pay11 (k3_pay3 i)) 1#32 acc w j
    = acc j + w (ix3 0 0 (j 1)) * moved (i (ix3 0 0 (j 1))) (fun k => x (ix2 k (j 1))) (j 0) := by
  rw [g_all, cast_self, addTo_apply]
  refine congrArg (fun z => acc j + w (ix3 0 0 (j 1)) * z) ?_
  have h := congrFun (steps_col (k3_pay3 (F := Ideal) i) x (j 1)) (j 0)
  refine Eq.trans ?_ (h.trans (congrArg (fun z => moved z (fun k => x (ix2 k (j 1))) (j 0)) (pay3_apply i (j 1))))
  idx_vars j

variable (V : (c : Dev nD) → (b : Ref sig .tc) → Buf (Elt Ideal) ((c : Thread nD τ).loc b))

/-- The windows' block indices in closed form. -/
theorem gather_idx : ∀ t : Fin cfg3.N, win3_0.index t = ![0, t.val / 16] ∧ win3_1.index t = ![t.val % 16, 0, t.val / 16]
    ∧ win3_2.index t = ![t.val % 16, 0, t.val / 16] ∧ win3_3.index t = ![0, t.val / 16] :=
  (by decide +kernel : ∀ t : Fin grid3.N, _)

/-- The sixteen weighted moved columns added up. -/
def gathered (W : S16x1x3072.Idx → EReal) (I : S16x1x3072.Idx → BitVec 32) (X : S4096x3072.Idx → EReal) (j : S4096x3072.Idx) : EReal :=
  ∑ r : Fin 16, W (ix3 r 0 (j 1)) * moved (I (ix3 r 0 (j 1))) (fun k => X (ix2 k (j 1))) (j 0)

/-- The result of region 3. -/
theorem gather_arr (c : Dev nD) : (dat3 V c).arrAt 3 cfg3.N = gathered (V c main_v21) (V c main_v22) (V c main_v5) := by
  refine (dat3 V c).arrAt_eq_of_covers 3 (gathered (V c main_v21) (V c main_v22) (V c main_v5)) (by decide +kernel) fun t hf y => ?_
  blk_simp
  rw [Gen.after3_3, Pipeline.eq_sum_fin_of_reset_step_apply_of_flush (fun n h => Gen.outsAt3 V c n h) 16 (fun _ => 0) _
    (fun t h j => by rw [Gen.outsAt3_A V c t h]; frame_out; rw [gather_pay, gather_zero])
    (fun t h j => by rw [Gen.outsAt3_B V c t h]; frame_out; rw [gather_pay])
    t ((Gen.flush3_3 t).mp hf) y, zero_add, gathered]
  refine Fin.sum_fin_congr fun s => ?_
  blk_point [iblk3, gather_idx t, gather_idx ⟨_, Pipeline.run_point_lt_of_flush t ((Gen.flush3_3 t).mp hf) s⟩]
  refine congrArg (moved _ _) (Fin.ext ?_)
  blk_simp
  first
  | (rw [(gather_idx t).2.2.2]; simp; done)
  | (simp [gather_idx t]; done)

end Cert.KernelIdeal.Corr

end
-- ==== Proof.HostIn.lean ====
/- The host's stretches: what the arrays of the kernel's regions are read from, on one device. -/
module

public import proofs.«01_k».proof.Proof.Fwd
public import proofs.«01_k».proof.Proof.Inv
public import proofs.«01_k».proof.Proof.TopArr
public import proofs.«01_k».proof.Proof.Gather

@[expose] public section

set_option maxRecDepth 16384

noncomputable section

namespace Cert.KernelIdeal.Corr

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- An argument laid out with one column per batch and feature. -/
def cols (x : S4x4096x768.Idx → EReal) : S4096x3072.Idx → EReal :=
  shapeCast S4096x3072 (transpose S4096x4x768 [1, 0, 2] x transposes_S4x4096x768_S4096x4x768_1_0_2) shapeCasts_S4096x4x768_S4096x3072

/-- The products of two positions. -/
def prods : IVec S4096x4096 32 :=
  muli (broadcastInDim S4096x4096 ![0, 1] bcast_S4096x1_S4096x4096_0_1 (broadcastInDim S4096x1 ![0] bcast_S4096_S4096x1_0 (iotaInDim S4096 32 0)))
    (broadcastInDim S4096x4096 ![0, 1] bcast_S1x4096_S4096x4096_0_1 (broadcastInDim S1x4096 ![1] bcast_S4096_S1x4096_1 (iotaInDim S4096 32 0)))

/-- The divisor, or one where it is zero. -/
def divisor : IVec S_ 32 := select (cmpi .eq (constantI S_ 32 4096#32) (constantI S_ 32 0#32)) (constantI S_ 32 1#32) (constantI S_ 32 4096#32)

/-- The truncated remainders of the products. -/
def rems : IVec S4096x4096 32 := Host.remsi prods (broadcastInDim S4096x4096 ![] bcast_S_S4096x4096 divisor)

/-- The angles of the tables. -/
def angles : FVec Ideal S4096x4096 .f32 :=
  mulf (sitofp .f32 (select (andi (cmpi .ne (cmpi .slt rems (broadcastInDim S4096x4096 ![] bcast_S_S4096x4096 (constantI S_ 32 0#32))) (broadcastInDim S4096x4096 ![] bcast_S_S4096x4096 (cmpi .slt divisor (constantI S_ 32 0#32)))) (cmpi .ne rems (broadcastInDim S4096x4096 ![] bcast_S_S4096x4096 (constantI S_ 32 0#32)))) (addi rems (broadcastInDim S4096x4096 ![] bcast_S_S4096x4096 divisor)) rems)) (broadcastInDim S4096x4096 ![] bcast_S_S4096x4096 (constant S_ .f32 0x3AC90FDB#32))

theorem W1_v1 : W1 m ρ c (Proc.devRef .tc main_v1) = cols (m ((c : Thread nD τ).loc main_arg0)) := by
  unfold W1; after_results; try rfl
theorem W1_v3 : W1 m ρ c (Proc.devRef .tc main_v3) = cols (m ((c : Thread nD τ).loc main_arg1)) := by
  unfold W1; after_results; try rfl
theorem W1_v5 : W1 m ρ c (Proc.devRef .tc main_v5) = cols (m ((c : Thread nD τ).loc main_arg2)) := by
  unfold W1; after_results; try rfl
theorem W1_v11 : W1 m ρ c (Proc.devRef .tc main_v11) = prods := by
  unfold W1; after_results; try rfl
theorem W1_c : W1 m ρ c (Proc.devRef .tc main_c) = constantI S_ 32 4096#32 := by
  unfold W1; after_results; try rfl
theorem W3_v16 : W3 m ρ c (Proc.devRef .tc main_v16) = Host.cos (angles) := by
  unfold W3 W2; after_results; rfl
theorem W3_v17 : W3 m ρ c (Proc.devRef .tc main_v17) = Host.sin (angles) := by
  unfold W3 W2; after_results; rfl
theorem W3_v1 : W3 m ρ c (Proc.devRef .tc main_v1) = cols (m ((c : Thread nD τ).loc main_arg0)) := by
  rw [W3_of m ρ c main_v1 (by decide), W2_of m ρ c main_v1 (by decide), W1_v1]
theorem W3_v3 : W3 m ρ c (Proc.devRef .tc main_v3) = cols (m ((c : Thread nD τ).loc main_arg1)) := by
  rw [W3_of m ρ c main_v3 (by decide), W2_of m ρ c main_v3 (by decide), W1_v3]
theorem W3_v5 : W3 m ρ c (Proc.devRef .tc main_v5) = cols (m ((c : Thread nD τ).loc main_arg2)) := by
  rw [W3_of m ρ c main_v5 (by decide), W2_of m ρ c main_v5 (by decide), W1_v5]

end Cert.KernelIdeal.Corr

end
-- ==== Proof.HostOut.lean ====
/- The kernel's result on one device, from the arguments: the arrays of the four regions followed from one to the next. -/
module

public import proofs.«01_k».proof.Proof.HostIn

@[expose] public section

set_option maxRecDepth 16384

noncomputable section

namespace Cert.KernelIdeal.Corr

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The table of cosines. -/
def tabC : S4096x4096.Idx → EReal := Host.cos angles
/-- The table of sines. -/
def tabS : S4096x4096.Idx → EReal := Host.sin angles

/-- The correlations of two sequences of columns. -/
def corr (q k : S4096x3072.Idx → EReal) : S4096x3072.Idx → EReal :=
  inv tabC tabS (fwd tabC q) (fwd tabS q) (fwd tabC k) (fwd tabS k)

/-- The output's columns. -/
def outCols (q k v : S4096x3072.Idx → EReal) (j : S4096x3072.Idx) : EReal :=
  ∑ r : Fin 16, topW (fun l => corr q k (ix2 l (j 1))) r * moved (topI (fun l => corr q k (ix2 l (j 1))) r) (fun l => v (ix2 l (j 1))) (j 0)

theorem W4_18_0 : W4 m ρ c (Proc.devRef .tc main_v18_0) = fwd tabC (cols (m ((c : Thread nD τ).loc main_arg0))) :=
  (W4_arr m ρ c 4).trans ((fwd_arr4 (V3 m ρ) c).trans (congrArg₂ fwd (W3_v16 m ρ c) (W3_v1 m ρ c)))
theorem W4_18_1 : W4 m ρ c (Proc.devRef .tc main_v18_1) = fwd tabS (cols (m ((c : Thread nD τ).loc main_arg0))) :=
  (W4_arr m ρ c 5).trans ((fwd_arr5 (V3 m ρ) c).trans (congrArg₂ fwd (W3_v17 m ρ c) (W3_v1 m ρ c)))
theorem W4_18_2 : W4 m ρ c (Proc.devRef .tc main_v18_2) = fwd tabC (cols (m ((c : Thread nD τ).loc main_arg1))) :=
  (W4_arr m ρ c 6).trans ((fwd_arr6 (V3 m ρ) c).trans (congrArg₂ fwd (W3_v16 m ρ c) (W3_v3 m ρ c)))
theorem W4_18_3 : W4 m ρ c (Proc.devRef .tc main_v18_3) = fwd tabS (cols (m ((c : Thread nD τ).loc main_arg1))) :=
  (W4_arr m ρ c 7).trans ((fwd_arr7 (V3 m ρ) c).trans (congrArg₂ fwd (W3_v17 m ρ c) (W3_v3 m ρ c)))
theorem W4_16 : W4 m ρ c (Proc.devRef .tc main_v16) = tabC := (W4_of m ρ c main_v16 (by decide)).trans (W3_v16 m ρ c)
theorem W4_17 : W4 m ρ c (Proc.devRef .tc main_v17) = tabS := (W4_of m ρ c main_v17 (by decide)).trans (W3_v17 m ρ c)

/-- The correlations' array. -/
theorem W5_19 : W5 m ρ c (Proc.devRef .tc main_v19) = corr (cols (m ((c : Thread nD τ).loc main_arg0))) (cols (m ((c : Thread nD τ).loc main_arg1))) := by
  refine (W5_arr m ρ c 6).trans ((inv_arr (V4 m ρ) c).trans ?_)
  show inv (W4 m ρ c (Proc.devRef .tc main_v16)) (W4 m ρ c (Proc.devRef .tc main_v17)) (W4 m ρ c (Proc.devRef .tc main_v18_0))
    (W4 m ρ c (Proc.devRef .tc main_v18_1)) (W4 m ρ c (Proc.devRef .tc main_v18_2)) (W4 m ρ c (Proc.devRef .tc main_v18_3)) = _
  rw [W4_16, W4_17, W4_18_0, W4_18_1, W4_18_2, W4_18_3]
  rfl

theorem W6_20_0 : W6 m ρ c (Proc.devRef .tc main_v20_0) = fun j : S16x3072.Idx =>
    topW (fun l => corr (cols (m ((c : Thread nD τ).loc main_arg0))) (cols (m ((c : Thread nD τ).loc main_arg1))) (ix2 l (j 1))) (j 0) := by
  refine (W6_arr m ρ c 1).trans ((top_arr1 (V5 m ρ) c).trans ?_)
  show (fun j : S16x3072.Idx => topW (fun k => W5 m ρ c (Proc.devRef .tc main_v19) (ix2 k (j 1))) (j 0)) = _
  rw [W5_19]
theorem W6_20_1 : W6 m ρ c (Proc.devRef .tc main_v20_1) = fun j : S16x3072.Idx =>
    topI (fun l => corr (cols (m ((c : Thread nD τ).loc main_arg0))) (cols (m ((c : Thread nD τ).loc main_arg1))) (ix2 l (j 1))) (j 0) := by
  refine (W6_arr m ρ c 2).trans ((top_arr2 (V5 m ρ) c).trans ?_)
  show (fun j : S16x3072.Idx => topI (fun k => W5 m ρ c (Proc.devRef .tc main_v19) (ix2 k (j 1))) (j 0)) = _
  rw [W5_19]

theorem W7_21 : W7 m ρ c (Proc.devRef .tc main_v21) = shapeCast S16x1x3072 (W6 m ρ c (Proc.devRef .tc main_v20_0)) shapeCasts_S16x3072_S16x1x3072 := by
  unfold W7; after_results; try rfl
theorem W7_22 : W7 m ρ c (Proc.devRef .tc main_v22) = shapeCast S16x1x3072 (W6 m ρ c (Proc.devRef .tc main_v20_1)) shapeCasts_S16x3072_S16x1x3072 := by
  unfold W7; after_results; try rfl
theorem W7_5 : W7 m ρ c (Proc.devRef .tc main_v5) = cols (m ((c : Thread nD τ).loc main_arg2)) := by
  rw [W7_of m ρ c main_v5 (by decide), W6_of m ρ c main_v5 (by decide), W5_of m ρ c main_v5 (by decide), W4_of m ρ c main_v5 (by decide), W3_v5]

/-- Sixteen rows read with a middle axis of one. -/
theorem mid_apply {α : Type} (x : S16x3072.Idx → α) (r : Fin 16) (q : Fin 3072) :
    shapeCast S16x1x3072 x shapeCasts_S16x3072_S16x1x3072 (ix3 r 0 q) = x (ix2 r q) := by
  pointwise

/-- The output's columns' array. -/
theorem W8_23 : W8 m ρ c (Proc.devRef .tc main_v23)
    = outCols (cols (m ((c : Thread nD τ).loc main_arg0))) (cols (m ((c : Thread nD τ).loc main_arg1))) (cols (m ((c : Thread nD τ).loc main_arg2))) := by
  refine (W8_arr m ρ c 3).trans ((gather_arr (V7 m ρ) c).trans ?_)
  show gathered (W7 m ρ c (Proc.devRef .tc main_v21)) (W7 m ρ c (Proc.devRef .tc main_v22)) (W7 m ρ c (Proc.devRef .tc main_v5)) = _
  rw [W7_21, W7_22, W7_5, W6_20_0, W6_20_1]
  funext j
  unfold gathered outCols
  refine Finset.sum_congr rfl fun r _ => ?_
  rw [mid_apply (α := EReal) _ r (j 1), mid_apply (α := BitVec 32) _ r (j 1)]
  rfl

/-- The column of a batch and a feature. -/
def colOf (b : Fin 4) (d : Fin 768) : Fin 3072 := ⟨b.val * 768 + d.val, by omega⟩

/-- An argument's columns, at a column's batch and feature. -/
theorem cols_apply (x : S4x4096x768.Idx → EReal) (t : Fin 4096) (b : Fin 4) (d : Fin 768) : cols x (ix2 t (colOf b d)) = x (ix3 b t d) := by
  unfold colOf
  pointwise [cols]

/-- The kernel's result, at a batch, a position and a feature. -/
theorem W9_25 (b : Fin 4) (t : Fin 4096) (d : Fin 768) : W9 m ρ c (Proc.devRef .tc main_v25) (ix3 b t d)
    = outCols (cols (m ((c : Thread nD τ).loc main_arg0))) (cols (m ((c : Thread nD τ).loc main_arg1))) (cols (m ((c : Thread nD τ).loc main_arg2)))
        (ix2 t (colOf b d)) := by
  have h : W9 m ρ c (Proc.devRef .tc main_v25) = transpose S4x4096x768 [1, 0, 2]
      (shapeCast S4096x4x768 (W8 m ρ c (Proc.devRef .tc main_v23)) shapeCasts_S4096x3072_S4096x4x768) transposes_S4096x4x768_S4x4096x768_1_0_2 := by
    unfold W9; after_results; try rfl
  rw [h, W8_23]
  generalize outCols _ _ _ = x
  unfold colOf
  pointwise

end Cert.KernelIdeal.Corr

end
-- ==== Proof.Algebra.lean ====
/- THE CORRELATION ON FINITE NUMBERS: the sum over blocks of frequencies, scaled term by term, is the difference of two
   sums over all frequencies, scaled at the end. -/
module

public import proofs.«01_k».proof.Proof.HostOut

@[expose] public section

set_option maxRecDepth 16384

noncomputable section

namespace Cert.KernelIdeal.Corr

open Cert.KernelIdeal Cert.KernelIdeal.Gen
open Idealize.ShloMosaic Idealize.ShloMosaic.TcCoe Idealize.SL.Sem

/-- A finite number. -/
def IsReal (x : EReal) : Prop := ∃ r : ℝ, x = (r : EReal)

/-- A finite number is not minus infinity. -/
theorem IsReal.ne_bot {x : EReal} (h : IsReal x) : x ≠ ⊥ := by
  obtain ⟨r, rfl⟩ := h
  exact EReal.coe_ne_bot r

/-- A number with a finite absolute value is finite. -/
theorem isReal_of_ne {x : EReal} (h : x ≠ ⊥) (h' : x ≠ ⊤) : IsReal x := ⟨x.toReal, (EReal.coe_toReal h' h).symm⟩

/-- A sum of finite numbers, as one. -/
theorem sum_coe {ι : Type} [Fintype ι] (g : ι → ℝ) : (∑ i, (g i : EReal)) = ((∑ i, g i : ℝ) : EReal) := by
  classical
  induction (Finset.univ : Finset ι) using Finset.induction_on with
  | empty => rw [Finset.sum_empty, Finset.sum_empty, EReal.coe_zero]
  | insert a s ha ih => rw [Finset.sum_insert ha, Finset.sum_insert ha, ih, EReal.coe_add]

/-- The scale is one part in 4096. -/
theorem scl_eq : scl = ((1 / 4096 : ℝ) : EReal) := by
  unfold scl
  simp [Ideal.ofBits, Ideal.ieee, -EReal.coe_mul]; norm_num

/-- The word of 4096. -/
theorem word4096 : Ideal.ofBits .f32 0x45800000#32 = ((4096 : ℝ) : EReal) := by
  simp [Ideal.ofBits, Ideal.ieee, -EReal.coe_mul]; norm_num

/-- The word of the angle step is finite. -/
theorem isReal_step : IsReal (Ideal.ofBits .f32 0x3AC90FDB#32) := by
  simp only [Ideal.ofBits, Ideal.ieee]
  exact ⟨_, rfl⟩

/-- A sum over all frequencies, block by block. -/
theorem sum_blocks (g : Fin 4096 → ℝ) : (∑ s : Fin 8, ∑ k : Fin 512, g (freq s k)) = ∑ k, g k := by
  rw [← Fintype.sum_prod_type' (f := fun s k => g (freq s k))]
  refine Fintype.sum_equiv (finProdFinEquiv (m := 8) (n := 512)) _ g fun p => congrArg g (Fin.ext ?_)
  show p.1.val * 512 + p.2.val = p.2.val + 512 * p.1.val
  omega

section
variable (A B cq sq ck sk : Fin 4096 → ℝ)

/-- The correlation as a real number. -/
def corrReal : ℝ := ((∑ k, (cq k * ck k + sq k * sk k) * A k) - ∑ k, (cq k * sk k - sq k * ck k) * B k) * (1 / 4096)

/-- The blocked sum of the kernel. -/
theorem blocked_eq : (∑ s : Fin 8, ((∑ k : Fin 512, (A (freq s k) : EReal) * crossRe (cq (freq s k)) (sq (freq s k)) (ck (freq s k)) (sk (freq s k)))
      - ∑ k : Fin 512, (B (freq s k) : EReal) * crossIm (cq (freq s k)) (sq (freq s k)) (ck (freq s k)) (sk (freq s k))))
    = (corrReal A B cq sq ck sk : EReal) := by
  simp only [crossRe, crossIm, scl_eq, ← EReal.coe_mul, ← EReal.coe_add, ← EReal.coe_sub, sum_coe]
  refine congrArg _ ?_
  rw [Finset.sum_sub_distrib, sum_blocks fun k => A k * ((cq k * ck k + sq k * sk k) * (1 / 4096)),
    sum_blocks fun k => B k * ((cq k * sk k - sq k * ck k) * (1 / 4096))]
  unfold corrReal
  rw [sub_mul, Finset.sum_mul, Finset.sum_mul]
  exact congrArg₂ _ (Finset.sum_congr rfl fun k _ => by ring) (Finset.sum_congr rfl fun k _ => by ring)

/-- The two sums of the reference. -/
theorem direct_eq : Ideal.div ((∑ k, ((cq k : EReal) * ck k + (-(sq k : EReal)) * (-(sk k : EReal))) * A k)
      - ∑ k, ((-(sq k : EReal)) * ck k - (cq k : EReal) * (-(sk k : EReal))) * B k) (Ideal.ofBits .f32 0x45800000#32)
    = (corrReal A B cq sq ck sk : EReal) := by
  rw [word4096, Ideal.div_coe (by norm_num)]
  simp only [← EReal.coe_neg, ← EReal.coe_mul, ← EReal.coe_add, ← EReal.coe_sub, sum_coe]
  refine congrArg _ ?_
  unfold corrReal
  exact congrArg (· * _) (congrArg₂ _ (Finset.sum_congr rfl fun k _ => by ring) (Finset.sum_congr rfl fun k _ => by ring))
end

/-- A product with a finite table of finite columns is finite. -/
theorem isReal_fwd (T : S4096x4096.Idx → EReal) (X : S4096x3072.Idx → EReal) (hT : ∀ i, IsReal (T i)) (hX : ∀ i, IsReal (X i))
    (j : S4096x3072.Idx) : IsReal (fwd T X j) := by
  choose t ht using hT
  choose x hx using hX
  refine ⟨∑ l : Fin 4096, t (ix2 (j 0) l) * x (ix2 l (j 1)), ?_⟩
  rw [← sum_coe]
  unfold fwd
  exact Finset.sum_congr rfl fun l _ => by rw [ht, hx, EReal.coe_mul]

/-- The angles are finite. -/
theorem isReal_angles (j : S4096x4096.Idx) : IsReal (angles j) := by
  obtain ⟨r, hr⟩ := isReal_step
  have h : ∀ x : IVec S4096x4096 32, IsReal (mulf (sitofp .f32 x) (broadcastInDim S4096x4096 ![] bcast_S_S4096x4096 (constant (F := Ideal) S_ .f32 0x3AC90FDB#32)) j) := fun x => by
    refine ⟨((x j).toInt : ℝ) * r, ?_⟩
    rw [EReal.coe_mul, ← hr]
    rfl
  exact h _

/-- The cosines are finite. -/
theorem isReal_tabC (j : S4096x4096.Idx) : IsReal (tabC j) := by
  obtain ⟨r, hr⟩ := isReal_angles j
  refine ⟨Real.cos r, ?_⟩
  show Ideal.cos (angles j) = _
  rw [hr, Ideal.cos_coe]

/-- The sines are finite. -/
theorem isReal_tabS (j : S4096x4096.Idx) : IsReal (tabS j) := by
  obtain ⟨r, hr⟩ := isReal_angles j
  refine ⟨Real.sin r, ?_⟩
  show Ideal.sin (angles j) = _
  rw [hr, Ideal.sin_coe]

/-- The correlation of finite columns is finite, and is the difference of two sums over all frequencies. -/
theorem corr_eq (q k : S4096x3072.Idx → EReal) (hq : ∀ i, IsReal (q i)) (hk : ∀ i, IsReal (k i)) (j : S4096x3072.Idx) :
    IsReal (corr q k j) ∧ corr q k j = Ideal.div
      ((∑ f : Fin 4096, (fwd tabC q (ix2 f (j 1)) * fwd tabC k (ix2 f (j 1)) + (-fwd tabS q (ix2 f (j 1))) * (-fwd tabS k (ix2 f (j 1)))) * tabC (ix2 (j 0) f))
        - ∑ f : Fin 4096, ((-fwd tabS q (ix2 f (j 1))) * fwd tabC k (ix2 f (j 1)) - fwd tabC q (ix2 f (j 1)) * (-fwd tabS k (ix2 f (j 1)))) * tabS (ix2 (j 0) f))
      (Ideal.ofBits .f32 0x45800000#32) := by
  choose cq hcq using isReal_fwd tabC q isReal_tabC hq
  choose sq hsq using isReal_fwd tabS q isReal_tabS hq
  choose ck hck using isReal_fwd tabC k isReal_tabC hk
  choose sk hsk using isReal_fwd tabS k isReal_tabS hk
  choose A hA using isReal_tabC
  choose B hB using isReal_tabS
  have h1 : corr q k j = (corrReal (fun f => A (ix2 (j 0) f)) (fun f => B (ix2 (j 0) f)) (fun f => cq (ix2 f (j 1))) (fun f => sq (ix2 f (j 1)))
      (fun f => ck (ix2 f (j 1))) (fun f => sk (ix2 f (j 1))) : EReal) := by
    rw [← blocked_eq]
    unfold corr inv
    refine Finset.sum_congr rfl fun s _ => congrArg₂ _ (Finset.sum_congr rfl fun f _ => ?_) (Finset.sum_congr rfl fun f _ => ?_)
    · rw [hcq, hsq, hck, hsk, hA]
    · rw [hcq, hsq, hck, hsk, hB]
  refine ⟨⟨_, h1⟩, ?_⟩
  rw [h1, ← direct_eq]
  simp only [hcq, hsq, hck, hsk, hA, hB]

end Cert.KernelIdeal.Corr

end
-- ==== Proof.Best.lean ====
/- THE SIXTEEN BEST POSITIONS OF A COLUMN: the rounds that take a maximum and overwrite it pick what a stable sort by
   descending value puts first. -/
module

public import proofs.«01_k».proof.Proof.TopArr
public import Idealize.ShloMosaic.Lib.PlanTiles.StableSort

@[expose] public section

set_option maxRecDepth 16384

noncomputable section

namespace Cert.KernelIdeal.Corr

open Cert.KernelIdeal Cert.KernelIdeal.Gen
open Idealize.ShloMosaic Idealize.ShloMosaic.TcCoe Idealize.SL.Sem

/-- The word of minus infinity. -/
theorem ninf : Ideal.ofBits .f32 0xFF800000#32 = ⊥ := by
  simp [Ideal.ofBits, Ideal.ieee]

/-- The positions of a column, greater value first and lower position first among equals. -/
def best (f : Fin 4096 → EReal) (r : Fin 4096) : Fin 4096 := sortedFrom (fun a b => decide (f b < f a)) r

section
variable {n : ℕ}

/-- How many entries lie below one of them. -/
def below (f : Fin n → EReal) (k : Fin n) : ℕ := (Finset.univ.filter fun j => f j < f k).card

/-- Counting the entries below keeps the order of the values. -/
theorem below_lt (f : Fin n → EReal) (a b : Fin n) : below f a < below f b ↔ f a < f b := by
  constructor
  · intro h
    by_contra hn
    refine absurd (Finset.card_le_card fun j hj => ?_) (not_le.mpr h)
    rw [Finset.mem_filter] at hj ⊢
    exact ⟨hj.1, hj.2.trans_le (not_lt.mp hn)⟩
  · intro h
    refine Finset.card_lt_card ⟨fun j hj => ?_, fun hs => ?_⟩
    · rw [Finset.mem_filter] at hj ⊢
      exact ⟨hj.1, hj.2.trans h⟩
    · exact lt_irrefl _ (Finset.mem_filter.mp (hs (Finset.mem_filter.mpr ⟨Finset.mem_univ a, h⟩))).2

/-- A stable sort by descending value: an earlier position has the greater value, or the same value and stands lower. -/
theorem sorted_order (f : Fin n → EReal) {i j : Fin n} (h : i < j) (a b : Fin n)
    (ha : sortedFrom (fun a b => decide (f b < f a)) i = a) (hb : sortedFrom (fun a b => decide (f b < f a)) j = b) :
    f b < f a ∨ (f a = f b ∧ a < b) := by
  have e : (fun a b => decide (f b < f a)) = fun a b : Fin n => decide (below f b < below f a) := by
    funext a b
    exact decide_eq_decide.mpr (below_lt f b a).symm
  rw [e] at ha hb
  have hp : ∀ a b : Fin (sortPositions n fun a b => decide (below f b < below f a)).length, a < b →
      PlanTiles.Lex (below f) (· < ·) ((sortPositions n _).get a) ((sortPositions n _).get b) :=
    List.pairwise_iff_get.mp (PlanTiles.pairwise_stableSort_lex (below f) (· < ·) (List.finRange n) (List.pairwise_lt_finRange n))
  have hq := hp (i.cast (length_sortPositions n _).symm) (j.cast (length_sortPositions n _).symm) (by simp only [Fin.lt_def, Fin.val_cast]; exact h)
  unfold sortedFrom at ha hb
  rw [ha, hb] at hq
  rcases hq with hq | ⟨hq, hr⟩
  · exact Or.inl ((below_lt f _ _).mp hq)
  · refine Or.inr ⟨le_antisymm (not_lt.mp fun h => ?_) (not_lt.mp fun h => ?_), hr⟩
    · exact absurd ((below_lt f _ _).mpr h) (by omega)
    · exact absurd ((below_lt f _ _).mpr h) (by omega)
end

/-- The best positions' order. -/
theorem best_order (f : Fin 4096 → EReal) {i j : Fin 4096} (h : i < j) :
    f (best f j) < f (best f i) ∨ (f (best f i) = f (best f j) ∧ best f i < best f j) :=
  sorted_order f h _ _ rfl rfl

/-- The least signed word over the positions with a property, with 4096 for the others, is the least such position. -/
theorem fold_least (p : Fin 4096 → Prop) [DecidablePred p] (a : Fin 4096) (ha : p a) (hl : ∀ k, p k → a ≤ k) :
    (Finset.univ.fold IntOp.minsi 2147483647#32 fun k : Fin 4096 => if p k then BitVec.ofNat 32 k else 4096#32) = BitVec.ofNat 32 a := by
  have hv : ∀ k : Fin 4096, (BitVec.ofNat 32 k).toInt = (k.val : ℤ) := fun k => by
    have hk := k.isLt
    have hn : (BitVec.ofNat 32 k).toNat = k.val := by rw [BitVec.toNat_ofNat]; omega
    rw [BitVec.toInt_eq_toNat_of_lt (by rw [hn]; omega), hn]
  have hm : ∀ x y : BitVec 32, (IntOp.minsi x y).toInt = min x.toInt y.toInt := fun x y => by
    unfold IntOp.minsi
    simp only [BitVec.slt]
    split <;> rename_i h <;> simp at h <;> omega
  rw [← BitVec.toInt_inj, ← Finset.fold_hom (op' := min) hm, hv]
  refine le_antisymm ?_ ?_
  · rw [Finset.fold_min_le]
    exact Or.inr ⟨a, Finset.mem_univ _, by rw [if_pos ha, hv]⟩
  · rw [Finset.le_fold_min]
    refine ⟨?_, fun k _ => ?_⟩
    · have := a.isLt
      rw [show (2147483647#32).toInt = 2147483647 from by decide]
      omega
    · by_cases h : p k
      · rw [if_pos h, hv]; exact_mod_cast hl k h
      · rw [if_neg h, show (4096#32).toInt = 4096 from by decide]
        have := a.isLt
        omega

/-- The column with its first `n` best positions overwritten. -/
def erased (f : Fin 4096 → EReal) (n : ℕ) (k : Fin 4096) : EReal := by
  classical exact if ∃ i : Fin 4096, i.val < n ∧ best f i = k then ⊥ else f k

section
variable (f : Fin 4096 → EReal) (hf : ∀ k, f k ≠ ⊥) (n : Fin 4096)

theorem best_inj : Function.Injective (best f) := sortedFrom_injective _
theorem best_surj : Function.Surjective (best f) := sortedFrom_surjective _

theorem erased_best : erased f n (best f n) = f (best f n) := by
  unfold erased
  rw [if_neg]
  rintro ⟨i, hi, h⟩
  rw [best_inj f h] at hi
  exact lt_irrefl _ hi

theorem erased_le (k : Fin 4096) : erased f n k ≤ f (best f n) := by
  unfold erased
  split
  · exact bot_le
  · rename_i h
    obtain ⟨i, rfl⟩ := best_surj f k
    rcases lt_trichotomy n i with hi | rfl | hi
    · rcases best_order f hi with h | ⟨h, -⟩
      · exact h.le
      · exact h.ge
    · exact le_refl _
    · exact absurd ⟨i, hi, rfl⟩ h

include hf in
theorem le_of_erased_eq (k : Fin 4096) (e : erased f n k = f (best f n)) : best f n ≤ k := by
  unfold erased at e
  split at e
  · exact absurd e.symm (hf _)
  · rename_i h
    obtain ⟨i, rfl⟩ := best_surj f k
    rcases lt_trichotomy n i with hi | rfl | hi
    · rcases best_order f hi with h | ⟨-, h⟩
      · exact absurd e (ne_of_lt h)
      · exact h.le
    · exact le_refl _
    · exact absurd ⟨i, hi, rfl⟩ h

/-- The maximum of what is left is at the next best position. -/
theorem cmax_erased : cmax (erased f n) = f (best f n) := by
  unfold cmax
  rw [ninf]
  refine le_antisymm ?_ ?_
  · rw [Finset.fold_max_le]
    exact ⟨bot_le, fun k _ => erased_le f n k⟩
  · rw [Finset.le_fold_max]
    exact Or.inr ⟨best f n, Finset.mem_univ _, (erased_best f n).ge⟩

include hf in
/-- The least position of that maximum is the next best position. -/
theorem cidx_erased : cidx (erased f n) = BitVec.ofNat 32 (best f n) := by
  unfold cidx
  rw [cmax_erased]
  exact fold_least (fun k => erased f n k = f (best f n)) _ (erased_best f n) (le_of_erased_eq f hf n)

/-- Two positions have the same word only if they are equal. -/
theorem word_inj (a b : Fin 4096) : BitVec.ofNat 32 a = BitVec.ofNat 32 b ↔ a = b := by
  constructor
  · intro e
    have h := congrArg BitVec.toNat e
    rw [BitVec.toNat_ofNat, BitVec.toNat_ofNat] at h
    have ha := a.isLt
    have hb := b.isLt
    exact Fin.ext (by omega)
  · intro e
    rw [e]

/-- One more position overwritten. -/
theorem erased_succ (k : Fin 4096) : erased f (n.val + 1) k = if k = best f n then ⊥ else erased f n.val k := by
  unfold erased
  by_cases h : k = best f n
  · rw [if_pos h, if_pos ⟨n, Nat.lt_succ_self _, h.symm⟩]
  · rw [if_neg h]
    refine if_congr ⟨fun ⟨i, hi, e⟩ => ?_, fun ⟨i, hi, e⟩ => ⟨i, Nat.lt_succ_of_lt hi, e⟩⟩ rfl rfl
    rcases Nat.lt_succ_iff_lt_or_eq.mp hi with hi | hi
    · exact ⟨i, hi, e⟩
    · exact absurd (by rw [← e, Fin.ext hi]) h

include hf in
/-- Overwriting it gives the next state. -/
theorem cnext_erased : cnext (erased f n) = erased f (n.val + 1) := by
  funext k
  unfold cnext
  rw [cidx_erased f hf, ninf]
  exact (if_congr (word_inj k (best f n)) rfl rfl).trans (erased_succ f n k).symm
end

/-- The rounds overwrite the best positions in order. -/
theorem cst_eq (f : Fin 4096 → EReal) (hf : ∀ k, f k ≠ ⊥) : ∀ n, n ≤ 4096 → cst f n = erased f n
  | 0, _ => by
    funext k
    unfold erased
    rw [if_neg (by rintro ⟨i, hi, -⟩; exact absurd hi (Nat.not_lt_zero _))]
    rfl
  | n + 1, h => by
    rw [cst, cst_eq f hf n (by omega)]
    exact cnext_erased f hf ⟨n, h⟩

/-- One of the sixteen rounds as a position of the column. -/
def rnd (r : Fin 16) : Fin 4096 := ⟨r.val, by omega⟩

/-- The chosen positions of a column without minus infinity. -/
theorem topI_eq (f : Fin 4096 → EReal) (hf : ∀ k, f k ≠ ⊥) (r : Fin 16) : topI f r = BitVec.ofNat 32 (best f (rnd r)) := by
  unfold topI
  rw [cst_eq f hf r (by omega)]
  exact cidx_erased f hf (rnd r)

/-- The weights of a column without minus infinity. -/
theorem topW_eq (f : Fin 4096 → EReal) (hf : ∀ k, f k ≠ ⊥) (r : Fin 16) : topW f r = soft (fun r => f (best f (rnd r))) r := by
  unfold topW
  refine congrArg (fun g => soft g r) (funext fun s => ?_)
  rw [cst_eq f hf s (by omega)]
  exact cmax_erased f (rnd s)

end Cert.KernelIdeal.Corr

end
-- ==== Proof.RefRead.lean ====
/- THE REFERENCE, READ AT AN INDEX, up to the correlation: the arguments by batch, head, position and feature; the
   transforms as sums over positions; the correlation as two sums over frequencies. -/
module

public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.ReferenceIdeal.Corr

open Cert.ReferenceIdeal Cert.ReferenceIdeal.Gen Cert.ReferenceIdeal.Value
open Idealize.ShloMosaic Idealize.ShloMosaic.TcCoe Idealize.SL.Sem Idealize.ShloMosaic.StableHlo

/-- The feature of a head and its place in the head. -/
def feat (h : Fin 12) (e : Fin 64) : Fin 768 := ⟨h.val * 64 + e.val, by omega⟩

/-- An argument split into heads. -/
def heads (x : FVec Ideal S4x4096x768 .f32) : FVec Ideal S4x12x4096x64 .f32 :=
  transpose S4x12x4096x64 [0, 2, 1, 3] (shapeCast S4x4096x12x64 x shapeCasts_S4x4096x768_S4x4096x12x64) transposes_S4x4096x12x64_S4x12x4096x64_0_2_1_3

/-- An argument split into heads, at an index. -/
theorem heads_apply (x : FVec Ideal S4x4096x768 .f32) (b : Fin 4) (h : Fin 12) (t : Fin 4096) (e : Fin 64) :
    heads x (ix4 b h t e) = x (ix3 b t (feat h e)) := by
  unfold feat
  pointwise [heads]

/-- The product with a table along the positions. -/
def along (T : FVec Ideal S4096x4096 .f32) (x : FVec Ideal S4x12x4096x64 .f32) : FVec Ideal S4x12x4096x64 .f32 :=
  transpose S4x12x4096x64 [0, 1, 3, 2] (Host.dotGeneral dot_S4x12x4096x64_S4096x4096_S4x12x64x4096_2_1_013_0_n_n (some .fp32) x T) transposes_S4x12x64x4096_S4x12x4096x64_0_1_3_2

/-- The product with a table, at an index. -/
theorem along_apply (T : FVec Ideal S4096x4096 .f32) (x : FVec Ideal S4x12x4096x64 .f32) (b : Fin 4) (h : Fin 12) (k : Fin 4096) (e : Fin 64) :
    along T x (ix4 b h k e) = ∑ l : Fin 4096, x (ix4 b h l e) * T (ix2 k l) := by
  pointwise [along]

/-- The scaled correlation of four transforms. -/
def corr4 (C S : FVec Ideal S4096x4096 .f32) (a p q r : FVec Ideal S4x12x4096x64 .f32) : FVec Ideal S4x12x64x4096 .f32 :=
  transpose S4x12x64x4096 [0, 1, 3, 2] (Host.divf (subf (along C (addf (mulf a q) (mulf p r))) (along S (subf (mulf p q) (mulf a r))))
    (broadcastInDim S4x12x4096x64 ![] bcast_S_S4x12x4096x64 (constant S_ .f32 0x45800000#32))) transposes_S4x12x4096x64_S4x12x64x4096_0_1_3_2

/-- The scaled correlation, at an index. -/
theorem corr4_apply (C S : FVec Ideal S4096x4096 .f32) (a p q r : FVec Ideal S4x12x4096x64 .f32) (b : Fin 4) (h : Fin 12) (e : Fin 64) (t : Fin 4096) :
    corr4 C S a p q r (ix4 b h e t) = Ideal.div
      ((∑ k : Fin 4096, (a (ix4 b h k e) * q (ix4 b h k e) + p (ix4 b h k e) * r (ix4 b h k e)) * C (ix2 t k))
        - ∑ k : Fin 4096, (p (ix4 b h k e) * q (ix4 b h k e) - a (ix4 b h k e) * r (ix4 b h k e)) * S (ix2 t k))
      (Ideal.ofBits .f32 0x45800000#32) := by
  pointwise [corr4, along_apply]

/-! ## The greatest sixteen -/

/-- The batched gather reads the position that the start index names, when it is in range. -/
theorem gather_apply (x : FVec Ideal S4x12x8192x64 .f32) (I : IVec S4x12x16x4096x64x1 32) (b : Fin 4) (h : Fin 12) (r : Fin 16) (t : Fin 4096) (e : Fin 64) (p : Fin 8192)
   (hp : (I (ix6 b h r t e 0)).toInt.toNat = p.val) :
    Host.gather gather_S4x12x8192x64_S4x12x16x4096x64x1_S4x12x16x4096x64_n_2_013_014_2_5_1111 x I (ix5 b h r t e) = x (ix4 b h p e) := by
  unfold Host.gather
  congr 1
  funext a
  apply Fin.ext
  have hs : GatherDims.siIdx gather_S4x12x8192x64_S4x12x16x4096x64x1_S4x12x16x4096x64_n_2_013_014_2_5_1111 (ix5 b h r t e) ⟨0, Nat.one_pos⟩ = ix6 b h r t e 0 := by
    funext q
    apply Fin.ext
    fin_cases q <;> rfl
  fin_cases a
  · show 0 + b.val + 0 = b.val
    omega
  · show 0 + h.val + 0 = h.val
    omega
  · show min (I (GatherDims.siIdx gather_S4x12x8192x64_S4x12x16x4096x64x1_S4x12x16x4096x64_n_2_013_014_2_5_1111 (ix5 b h r t e) ⟨0, _⟩)).toInt.toNat (8192 - 1) + 0 + 0 = p.val
    rw [hs, hp]
    have := p.isLt
    omega
  · show 0 + e.val + 0 = e.val
    omega

/-- The position of the `r`-th greatest along the last axis. -/
def pick (x : FVec Ideal S4x12x64x4096 .f32) (b : Fin 4) (h : Fin 12) (e : Fin 64) (r : Fin 4096) : Fin 4096 :=
  sortedFrom (fun k k' : Fin 4096 => decide (x (ix4 b h e k') < x (ix4 b h e k))) r

/-- An index with its last coordinate replaced. -/
theorem along3 (b : Fin 4) (h : Fin 12) (e : Fin 64) (r k : Fin 4096) :
    Shape.Idx.along (s := S4x12x64x4096) (ix4 b h e r) (3 : Fin 4) k = ix4 b h e k := by
  funext a
  fin_cases a <;> rfl

/-- The sorting permutation along the last axis. -/
theorem sort_pos (x : FVec Ideal S4x12x64x4096 .f32) (b : Fin 4) (h : Fin 12) (e : Fin 64) (r : Fin 4096) :
    sortedFrom (fun k k' : Fin 4096 => FloatOps.cmpfTotal (F := Ideal) (φ := .f32) .gt (x (Shape.Idx.along (s := S4x12x64x4096) (ix4 b h e r) (3 : Fin 4) k)) (x (Shape.Idx.along (s := S4x12x64x4096) (ix4 b h e r) (3 : Fin 4) k')) == 1#1) r
      = pick x b h e r := by
  unfold pick
  refine congrArg (fun B => sortedFrom B r) (funext fun k => funext fun k' => ?_)
  rw [along3, along3]
  show (BitVec.ofBool (decide (x (ix4 b h e k') < x (ix4 b h e k))) == 1#1) = _
  cases decide (x (ix4 b h e k') < x (ix4 b h e k)) <;> rfl

/-- The sorted values. -/
theorem sort_fst (x : FVec Ideal S4x12x64x4096 .f32) (y : IVec S4x12x64x4096 32) (b : Fin 4) (h : Fin 12) (e : Fin 64) (r : Fin 4096) :
    (Host.sort2 S4x12x64x4096 3 (fun l r => FloatOps.cmpfTotal (F := Ideal) (φ := .f32) .gt l.1 r.1) x y).1 (ix4 b h e r) = x (ix4 b h e (pick x b h e r)) := by
  unfold Host.sort2
  rw [dif_pos (show 3 < S4x12x64x4096.rank from by decide)]
  refine (congrArg (fun p => x (Shape.Idx.along (s := S4x12x64x4096) (ix4 b h e r) (3 : Fin 4) p)) (sort_pos x b h e r)).trans ?_
  exact congrArg x (along3 b h e r _)

/-- The carried words. -/
theorem sort_snd (x : FVec Ideal S4x12x64x4096 .f32) (y : IVec S4x12x64x4096 32) (b : Fin 4) (h : Fin 12) (e : Fin 64) (r : Fin 4096) :
    (Host.sort2 S4x12x64x4096 3 (fun l r => FloatOps.cmpfTotal (F := Ideal) (φ := .f32) .gt l.1 r.1) x y).2 (ix4 b h e r) = y (ix4 b h e (pick x b h e r)) := by
  unfold Host.sort2
  rw [dif_pos (show 3 < S4x12x64x4096.rank from by decide)]
  refine (congrArg (fun p => y (Shape.Idx.along (s := S4x12x64x4096) (ix4 b h e r) (3 : Fin 4) p)) (sort_pos x b h e r)).trans ?_
  exact congrArg y (along3 b h e r _)

/-- A round as a position. -/
def rnd (r : Fin 16) : Fin 4096 := ⟨r.val, by omega⟩

/-- A slice at offset zero. -/
theorem head_apply {α : Type} (v : S4x12x64x4096.Idx → α) (b : Fin 4) (h : Fin 12) (e : Fin 64) (r : Fin 16) :
    extractStridedSlice S4x12x64x16 (fun _ => 0) v sliceFits_S4x12x64x4096_S4x12x64x16 (ix4 b h e r) = v (ix4 b h e (rnd r)) := by
  unfold extractStridedSlice rnd
  refine congrArg v (funext fun a => Fin.ext ?_)
  fin_cases a <;> exact Nat.zero_add _

/-- The greatest values, in order. -/
theorem top_fst (x : FVec Ideal S4x12x64x4096 .f32) (b : Fin 4) (h : Fin 12) (e : Fin 64) (r : Fin 16) :
    (Host.topK S4x12x64x16 3 (FloatOps.cmpfTotal .gt) x sliceFits_S4x12x64x4096_S4x12x64x16).1 (ix4 b h e r) = x (ix4 b h e (pick x b h e (rnd r))) := by
  unfold Host.topK
  dsimp only
  exact (head_apply _ b h e r).trans (sort_fst x _ b h e (rnd r))

/-- Their positions, as words. -/
theorem top_snd (x : FVec Ideal S4x12x64x4096 .f32) (b : Fin 4) (h : Fin 12) (e : Fin 64) (r : Fin 16) :
    (Host.topK S4x12x64x16 3 (FloatOps.cmpfTotal .gt) x sliceFits_S4x12x64x4096_S4x12x64x16).2 (ix4 b h e r) = BitVec.ofNat 32 (pick x b h e (rnd r)) := by
  unfold Host.topK
  dsimp only
  refine (head_apply _ b h e r).trans ((sort_snd x _ b h e (rnd r)).trans ?_)
  rw [dif_pos (show 3 < S4x12x64x4096.rank from by decide)]
  rfl

/-! ## The softmax -/

/-- The exponentials of sixteen rows, each lowered by their maximum. -/
def expd (y : FVec Ideal S4x12x16x64 .f32) : FVec Ideal S4x12x16x64 .f32 :=
  Host.exp (subf y (broadcastInDim S4x12x16x64 ![0, 1, 2, 3] bcast_S4x12x1x64_S4x12x16x64_0_1_2_3 (broadcastInDim S4x12x1x64 ![0, 1, 3] bcast_S4x12x64_S4x12x1x64_0_1_3 (maximumf (broadcastInDim S4x12x64 ![] bcast_S_S4x12x64 (constant S_ .f32 0xFF800000#32)) (Host.reduce FloatOps.maximumf y (constant S_ .f32 0xFF800000#32) reducesTo_S4x12x16x64_S4x12x64_d2 h_S_)))))

/-- The exponentials, at an index. -/
theorem expd_apply (y : FVec Ideal S4x12x16x64 .f32) (b : Fin 4) (h : Fin 12) (r : Fin 16) (e : Fin 64) :
    expd y (ix4 b h r e) = Ideal.exp (y (ix4 b h r e) - max (Ideal.ofBits .f32 0xFF800000#32) (Finset.univ.fold max (Ideal.ofBits .f32 0xFF800000#32) fun r : Fin 16 => y (ix4 b h r e))) := by
  pointwise [expd]

/-- Sixteen rows divided by their sum. -/
def share (z : FVec Ideal S4x12x16x64 .f32) : FVec Ideal S4x12x16x64 .f32 :=
  Host.divf z (broadcastInDim S4x12x16x64 ![0, 1, 2, 3] bcast_S4x12x1x64_S4x12x16x64_0_1_2_3 (broadcastInDim S4x12x1x64 ![0, 1, 3] bcast_S4x12x64_S4x12x1x64_0_1_3 (Host.reduceAdd z (constant S_ .f32 0x00000000#32) reducesTo_S4x12x16x64_S4x12x64_d2 h_S_)))

/-- The shares, at an index. -/
theorem share_apply (z : FVec Ideal S4x12x16x64 .f32) (b : Fin 4) (h : Fin 12) (r : Fin 16) (e : Fin 64) :
    share z (ix4 b h r e) = Ideal.div (z (ix4 b h r e)) (∑ k : Fin 16, z (ix4 b h k e)) := by
  pointwise [share]

/-! ## The sum over the sixteen delays -/

/-- The sequence taken twice in a row. -/
def twice (v : FVec Ideal S4x12x4096x64 .f32) : FVec Ideal S4x12x8192x64 .f32 :=
  shapeCast S4x12x8192x64 (broadcastInDim S4x12x1x8192x64 ![0, 1, 3, 4] bcast_S4x12x8192x64_S4x12x1x8192x64_0_1_3_4 (concatenate S4x12x8192x64 2 [⟨S4x12x4096x64, v⟩, ⟨S4x12x4096x64, v⟩] concatenates_S4x12x4096x64_S4x12x4096x64_S4x12x8192x64_d2)) shapeCasts_S4x12x1x8192x64_S4x12x8192x64

/-- The first of the two copies. -/
theorem twice_apply (v : FVec Ideal S4x12x4096x64 .f32) (b : Fin 4) (h : Fin 12) (p : Fin 4096) (e : Fin 64) :
    twice v (ix4 b h ⟨p.val, by omega⟩ e) = v (ix4 b h p e) := by
  pointwise [twice]

/-- The delayed positions, at most the last one. -/
def delays (i : IVec S4x12x16x64 32) : IVec S4x12x16x4096x64 32 :=
  minsi (broadcastInDim S4x12x16x4096x64 ![] bcast_S_S4x12x16x4096x64 (id (constantI S_ 32 4095#32))) (addi (broadcastInDim S4x12x16x4096x64 ![0, 1, 2, 3, 4] bcast_S4x12x16x1x64_S4x12x16x4096x64_0_1_2_3_4 (broadcastInDim S4x12x16x1x64 ![0, 1, 2, 4] bcast_S4x12x16x64_S4x12x16x1x64_0_1_2_4 i)) (broadcastInDim S4x12x16x4096x64 ![0, 1, 2, 3, 4] bcast_S1x1x1x4096x1_S4x12x16x4096x64_0_1_2_3_4 (broadcastInDim S1x1x1x4096x1 ![0, 1, 3, 4] bcast_S1x1x4096x1_S1x1x1x4096x1_0_1_3_4 (broadcastInDim S1x1x4096x1 ![2] bcast_S4096_S1x1x4096x1_2 (iotaInDim S4096 32 0)))))

/-- The delayed positions, at an index. -/
theorem delays_apply (i : IVec S4x12x16x64 32) (b : Fin 4) (h : Fin 12) (r : Fin 16) (t : Fin 4096) (e : Fin 64) :
    delays i (ix5 b h r t e) = IntOp.minsi 4095#32 (i (ix4 b h r e) + BitVec.ofNat 32 t) := by
  pointwise [delays]
  rfl

/-- The start indices: a negative position counted from the end. -/
def starts (q : IVec S4x12x16x4096x64 32) : IVec S4x12x16x4096x64x1 32 :=
  shapeCast S4x12x16x4096x64x1 (select (cmpi .slt q (broadcastInDim S4x12x16x4096x64 ![] bcast_S_S4x12x16x4096x64 (constantI S_ 32 0#32))) (addi q (broadcastInDim S4x12x16x4096x64 ![] bcast_S_S4x12x16x4096x64 (constantI S_ 32 8192#32))) q) shapeCasts_S4x12x16x4096x64_S4x12x16x4096x64x1

/-- The start indices, at an index. -/
theorem starts_apply (q : IVec S4x12x16x4096x64 32) (b : Fin 4) (h : Fin 12) (r : Fin 16) (t : Fin 4096) (e : Fin 64) :
    starts q (ix6 b h r t e 0) = Scalar.select (IntOp.cmpi .slt (q (ix5 b h r t e)) 0#32) (q (ix5 b h r t e) + 8192#32) (q (ix5 b h r t e)) := by
  pointwise [starts]
  rfl

/-- The rows read at the delays, weighted and summed, laid out as the result. -/
def mixed (w : FVec Ideal S4x12x16x64 .f32) (g : FVec Ideal S4x12x16x4096x64 .f32) : FVec Ideal S4x4096x768 .f32 :=
  shapeCast S4x4096x768 (transpose S4x4096x12x64 [0, 2, 1, 3] (Host.reduceAdd (mulf (broadcastInDim S4x12x16x4096x64 ![0, 1, 2, 3, 4] bcast_S4x12x16x1x64_S4x12x16x4096x64_0_1_2_3_4 (broadcastInDim S4x12x16x1x64 ![0, 1, 2, 4] bcast_S4x12x16x64_S4x12x16x1x64_0_1_2_4 w)) g) (constant S_ .f32 0x00000000#32) reducesTo_S4x12x16x4096x64_S4x12x4096x64_d2 h_S_) transposes_S4x12x4096x64_S4x4096x12x64_0_2_1_3) shapeCasts_S4x4096x12x64_S4x4096x768

/-- The result, at a batch, a position and a head's feature. -/
theorem mixed_apply (w : FVec Ideal S4x12x16x64 .f32) (g : FVec Ideal S4x12x16x4096x64 .f32) (b : Fin 4) (t : Fin 4096) (h : Fin 12) (e : Fin 64) :
    mixed w g (ix3 b t (feat h e)) = ∑ r : Fin 16, w (ix4 b h r e) * g (ix5 b h r t e) := by
  unfold feat
  pointwise [mixed]

/-! ## The program's terms -/

section
variable (V : Valuation τ sig (Elt Ideal))

theorem v41_eq : res_main_v41 V = corr4 (res_main_v16 V) (res_main_v17 V)
    (along (res_main_v16 V) (heads (V (Proc.devRef .tc main_arg0)))) (Host.negf (along (res_main_v17 V) (heads (V (Proc.devRef .tc main_arg0)))))
    (along (res_main_v16 V) (heads (V (Proc.devRef .tc main_arg1)))) (Host.negf (along (res_main_v17 V) (heads (V (Proc.devRef .tc main_arg1))))) := by
  unfold res_main_v41 res_main_v19 res_main_v22 res_main_v24 res_main_v27 res_main_v1 res_main_v3
  rfl

/-- The sixteen greatest correlations. -/
theorem v42_apply (b : Fin 4) (h : Fin 12) (r : Fin 16) (e : Fin 64) :
    res_main_v42 V (ix4 b h r e) = res_main_v41 V (ix4 b h e (pick (res_main_v41 V) b h e (rnd r))) := by
  refine Eq.trans ?_ (top_fst (res_main_v41 V) b h e r)
  unfold res_main_v42
  generalize res_main_v41 V = x
  pointwise

/-- The exponentials. -/
theorem v50_eq : res_main_v50 V = expd (res_main_v42 V) := rfl

/-- The delays' words. -/
def lags : IVec S4x12x16x64 32 :=
  transpose S4x12x16x64 [0, 1, 3, 2] ((Host.topK S4x12x64x16 3 (FloatOps.cmpfTotal .gt) (res_main_v41 V) sliceFits_S4x12x64x4096_S4x12x64x16).2) transposes_S4x12x64x16_S4x12x16x64_0_1_3_2

/-- The delays' words, at an index. -/
theorem lags_apply (b : Fin 4) (h : Fin 12) (r : Fin 16) (e : Fin 64) :
    lags V (ix4 b h r e) = BitVec.ofNat 32 (pick (res_main_v41 V) b h e (rnd r)) := by
  refine Eq.trans ?_ (top_snd (res_main_v41 V) b h e r)
  unfold lags
  generalize res_main_v41 V = x
  pointwise

theorem v63_eq : res_main_v63 V = delays (lags V) := rfl

theorem v5_eq : res_main_v5 V = heads (V (Proc.devRef .tc main_arg2)) := rfl

/-- The result as a mixture. -/
def out : FVec Ideal S4x4096x768 .f32 :=
  mixed (share (expd (res_main_v42 V))) (Host.gather gather_S4x12x8192x64_S4x12x16x4096x64x1_S4x12x16x4096x64_n_2_013_014_2_5_1111
    (twice (heads (V (Proc.devRef .tc main_arg2)))) (starts (delays (lags V))))

/-- A delayed position is in range. -/
theorem delay_val (p t : Fin 4096) : (Scalar.select (IntOp.cmpi .slt (IntOp.minsi 4095#32 (BitVec.ofNat 32 p + BitVec.ofNat 32 t)) 0#32)
    (IntOp.minsi 4095#32 (BitVec.ofNat 32 p + BitVec.ofNat 32 t) + 8192#32) (IntOp.minsi 4095#32 (BitVec.ofNat 32 p + BitVec.ofNat 32 t))).toInt.toNat
      = min (t.val + p.val) 4095 := by
  have hp := p.isLt
  have ht := t.isLt
  have e : IntOp.minsi 4095#32 (BitVec.ofNat 32 p + BitVec.ofNat 32 t) = BitVec.ofNat 32 (min (t.val + p.val) 4095) := by
    have hs : (BitVec.ofNat 32 p + BitVec.ofNat 32 t).toInt = (t.val + p.val : ℕ) := by
      rw [← BitVec.ofNat_add]
      have hn : (BitVec.ofNat 32 (p.val + t.val)).toNat = p.val + t.val := by rw [BitVec.toNat_ofNat]; omega
      rw [BitVec.toInt_eq_toNat_of_lt (by rw [hn]; omega), hn, Nat.add_comm]
    unfold IntOp.minsi
    split <;> rename_i h <;> simp only [BitVec.slt, hs, show (4095#32).toInt = 4095 from by decide, decide_eq_true_eq] at h
    · rw [Nat.min_eq_right (by omega)]
    · rw [Nat.min_eq_left (by omega), Nat.add_comm, BitVec.ofNat_add]
  rw [e]
  have hn : (BitVec.ofNat 32 (min (t.val + p.val) 4095)).toNat = min (t.val + p.val) 4095 := by rw [BitVec.toNat_ofNat]; omega
  have hi : (BitVec.ofNat 32 (min (t.val + p.val) 4095)).toInt = (min (t.val + p.val) 4095 : ℕ) := by
    rw [BitVec.toInt_eq_toNat_of_lt (by rw [hn]; omega), hn]
  have hc : IntOp.cmpi .slt (BitVec.ofNat 32 (min (t.val + p.val) 4095)) 0#32 = 0#1 := by
    show BitVec.ofBool (BitVec.slt _ _) = _
    simp only [BitVec.slt]
    rw [hi, show (0#32).toInt = 0 from by decide]
    rw [decide_eq_false (by omega)]
    rfl
  rw [hc, show Scalar.select 0#1 (BitVec.ofNat 32 (min (t.val + p.val) 4095) + 8192#32) (BitVec.ofNat 32 (min (t.val + p.val) 4095))
    = BitVec.ofNat 32 (min (t.val + p.val) 4095) from rfl, hi]
  rfl

/-- The reference's result, at a batch, a position and a head's feature. -/
theorem out_apply (b : Fin 4) (t : Fin 4096) (h : Fin 12) (e : Fin 64) :
    out V (ix3 b t (feat h e)) = ∑ r : Fin 16, share (expd (res_main_v42 V)) (ix4 b h r e)
      * V (Proc.devRef .tc main_arg2) (ix3 b ⟨min (t.val + (pick (res_main_v41 V) b h e (rnd r)).val) 4095, by omega⟩ (feat h e)) := by
  unfold out
  rw [mixed_apply]
  refine Finset.sum_congr rfl fun r _ => congrArg _ ?_
  refine (gather_apply _ _ b h r t e ⟨min (t.val + (pick (res_main_v41 V) b h e (rnd r)).val) 4095, by omega⟩ ?_).trans ?_
  · rw [starts_apply, delays_apply, lags_apply]
    exact delay_val _ t
  · exact (twice_apply _ b h ⟨min (t.val + (pick (res_main_v41 V) b h e (rnd r)).val) 4095, by omega⟩ e).trans (heads_apply _ b h _ e)

end

/-- The reference's run: the result buffer holds the mixture, the arguments are unchanged. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v71) = out (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.ReferenceIdeal.Corr

end
-- ==== Proof.Equation.lean ====
/- THE EQUATION: on finite queries and keys the reference's mixture is the kernel's output, at every batch, position and feature. -/
module

public import proofs.«01_k».proof.Proof.Algebra
public import proofs.«01_k».proof.Proof.Best
public import proofs.«01_k».proof.Proof.RefRead

@[expose] public section

set_option maxRecDepth 16384

noncomputable section

namespace Cert.Equation

open Cert.KernelIdeal.Corr Cert.ReferenceIdeal.Value
open Idealize.ShloMosaic Idealize.ShloMosaic.TcCoe Idealize.SL.Sem Idealize.ShloMosaic.StableHlo
open Cert.ReferenceIdeal.Corr (feat heads along corr4 pick out lags expd share)

section
variable (V : Valuation Cert.ReferenceIdeal.τ Cert.ReferenceIdeal.sig (Elt Ideal))

/-- The reference's angles are the kernel's. -/
theorem v15_eq : res_main_v15 V = angles := rfl

/-- The reference's cosines are the kernel's. -/
theorem v16_eq : res_main_v16 V = tabC := congrArg Host.cos (v15_eq V)

/-- The reference's sines are the kernel's. -/
theorem v17_eq : res_main_v17 V = tabS := congrArg Host.sin (v15_eq V)

/-- A head's transform is the transform of its column. -/
theorem along_heads (T x) (b : Fin 4) (h : Fin 12) (f : Fin 4096) (e : Fin 64) :
    along T (heads x) (ix4 b h f e) = fwd T (cols x) (ix2 f (colOf b (feat h e))) := by
  rw [Cert.ReferenceIdeal.Corr.along_apply]
  refine Finset.sum_congr rfl fun l _ => ?_
  change _ = T (ix2 f l) * cols x (ix2 l (colOf b (feat h e)))
  rw [Cert.ReferenceIdeal.Corr.heads_apply, cols_apply, mul_comm]

variable (q k v : FVec Ideal Cert.KernelIdeal.S4x4096x768 .f32)
variable (hq : ∀ i, IsReal (q i)) (hk : ∀ i, IsReal (k i))
variable (h0 : V (Proc.devRef .tc Cert.ReferenceIdeal.main_arg0) = q) (h1 : V (Proc.devRef .tc Cert.ReferenceIdeal.main_arg1) = k)
variable (h2 : V (Proc.devRef .tc Cert.ReferenceIdeal.main_arg2) = v)

/-- The columns of a finite argument are finite. -/
theorem isReal_cols (x : FVec Ideal Cert.KernelIdeal.S4x4096x768 .f32) (hx : ∀ i, IsReal (x i)) (j : Cert.KernelIdeal.S4096x3072.Idx) :
    IsReal (cols x j) := by
  unfold cols shapeCast transpose
  exact hx _

/-- The correlations of a column. -/
def column (p : Fin 3072) (l : Fin 4096) : EReal := corr (cols q) (cols k) (ix2 l p)

include hq hk in
/-- They are finite. -/
theorem column_ne (p : Fin 3072) (l : Fin 4096) : column q k p l ≠ ⊥ :=
  (corr_eq (cols q) (cols k) (isReal_cols q hq) (isReal_cols k hk) (ix2 l p)).1.ne_bot

include hq hk h0 h1 in
/-- The reference's correlation is the kernel's. -/
theorem v41_apply (b : Fin 4) (h : Fin 12) (e : Fin 64) (t : Fin 4096) :
    res_main_v41 V (ix4 b h e t) = column q k (colOf b (feat h e)) t := by
  rw [Cert.ReferenceIdeal.Corr.v41_eq, v16_eq, v17_eq, h0, h1, Cert.ReferenceIdeal.Corr.corr4_apply]
  refine Eq.trans ?_ (corr_eq (cols q) (cols k) (isReal_cols q hq) (isReal_cols k hk) (ix2 t (colOf b (feat h e)))).2.symm
  have hn : ∀ T x f, Host.negf (along T (heads x)) (ix4 b h f e) = -fwd T (cols x) (ix2 f (colOf b (feat h e))) :=
    fun T x f => congrArg (fun y : EReal => -y) (along_heads T x b h f e)
  simp only [along_heads, hn]
  rfl

include hq hk h0 h1 in
/-- The reference's order of a head's positions is the order of its column. -/
theorem pick_eq (b : Fin 4) (h : Fin 12) (e : Fin 64) (r : Fin 4096) :
    pick (res_main_v41 V) b h e r = best (column q k (colOf b (feat h e))) r := by
  unfold pick best
  simp only [v41_apply V q k hq hk h0 h1]

/-- The reference's softmax of sixteen rows is the kernel's. -/
theorem share_eq (y : FVec Ideal Cert.ReferenceIdeal.S4x12x16x64 .f32) (b : Fin 4) (h : Fin 12) (r : Fin 16) (e : Fin 64) :
    share (expd y) (ix4 b h r e) = soft (fun r => y (ix4 b h r e)) r := by
  have hm : ∀ x : EReal, max (Ideal.ofBits .f32 0xFF800000#32) x = x := fun x => by rw [ninf]; exact max_eq_right bot_le
  rw [Cert.ReferenceIdeal.Corr.share_apply]
  simp only [Cert.ReferenceIdeal.Corr.expd_apply, hm]
  rfl

include hq hk h0 h1 in
/-- The reference's weights are the kernel's. -/
theorem weight_eq (b : Fin 4) (h : Fin 12) (r : Fin 16) (e : Fin 64) :
    share (expd (res_main_v42 V)) (ix4 b h r e) = topW (column q k (colOf b (feat h e))) r := by
  rw [share_eq, topW_eq _ (column_ne q k hq hk _)]
  refine congrArg (fun g => soft g r) (funext fun s => ?_)
  rw [Cert.ReferenceIdeal.Corr.v42_apply, v41_apply V q k hq hk h0 h1, pick_eq V q k hq hk h0 h1]
  rfl

include hq hk h0 h1 h2 in
/-- The results agree, at a batch, a position and a head's feature. -/
theorem out_feat (b : Fin 4) (t : Fin 4096) (h : Fin 12) (e : Fin 64) :
    out V (ix3 b t (feat h e)) = outCols (cols q) (cols k) (cols v) (ix2 t (colOf b (feat h e))) := by
  rw [Cert.ReferenceIdeal.Corr.out_apply, h2]
  refine Finset.sum_congr rfl fun r _ => congrArg₂ _ (weight_eq V q k hq hk h0 h1 b h r e) ?_
  change _ = moved (topI (column q k (colOf b (feat h e))) r) (fun l => cols v (ix2 l (colOf b (feat h e)))) t
  rw [topI_eq _ (column_ne q k hq hk _)]
  have hn : (BitVec.ofNat 32 (best (column q k (colOf b (feat h e))) (rnd r)).val).toNat = (best (column q k (colOf b (feat h e))) (rnd r)).val := by
    have := (best (column q k (colOf b (feat h e))) (rnd r)).isLt
    rw [BitVec.toNat_ofNat]
    omega
  rw [moved_eq _ (by rw [hn]; exact (best (column q k (colOf b (feat h e))) (rnd r)).isLt), cols_apply]
  refine congrArg (fun p => v (ix3 b p (feat h e))) (Fin.ext ?_)
  show min (t.val + (pick (res_main_v41 V) b h e _).val) 4095 = min (t.val + (BitVec.ofNat 32 (best (column q k (colOf b (feat h e))) (rnd r)).val).toNat) 4095
  rw [hn, pick_eq V q k hq hk h0 h1]
  rfl

include hq hk h0 h1 h2 in
/-- The results agree everywhere. -/
theorem out_eq (y : Cert.KernelIdeal.S4x4096x768.Idx → EReal)
    (hy : ∀ (b : Fin 4) (t : Fin 4096) (d : Fin 768), y (ix3 b t d) = outCols (cols q) (cols k) (cols v) (ix2 t (colOf b d))) : out V = y := by
  funext j
  have hd : (j 2).val < 768 := (j 2).isLt
  obtain ⟨b, t, h, e, rfl⟩ : ∃ (b : Fin 4) (t : Fin 4096) (h : Fin 12) (e : Fin 64), j = ix3 b t (feat h e) := by
    refine ⟨j 0, j 1, ⟨(j 2).val / 64, by omega⟩, ⟨(j 2).val % 64, by omega⟩, ?_⟩
    funext a
    fin_cases a
    · rfl
    · rfl
    · exact Fin.ext (by show (j 2).val = (j 2).val / 64 * 64 + (j 2).val % 64; omega)
  exact (out_feat V q k v hq hk h0 h1 h2 b t h e).trans (hy b t (feat h e)).symm

end

end Cert.Equation

end
-- ==== Proof.Finite.lean ====
/- THE PRECONDITION READ: that the absolute values of the queries and the keys are below infinity says that every one of them is a real number. -/
module

public import proofs.«01_k».proof.Defs
public import proofs.«01_k».proof.Proof.Algebra
public import Idealize.ShloMosaic.Lib.Pointwise

@[expose] public section

noncomputable section

namespace Cert.Finite

open Cert.KernelIdeal.Corr
open Idealize.ShloMosaic

/-- The word 0x7F800000 reads as infinity. -/
theorem pinf : Ideal.ofBits .f32 0x7F800000#32 = ⊤ := by
  simp [Ideal.ofBits, Ideal.ieee]

/-- An extended real whose absolute value compares below infinity is a real number. -/
theorem isReal_of_lt (x : EReal) (h : Ideal.cmp .olt (max x (-x)) (Ideal.ofBits .f32 0x7F800000#32) = 1#1) : IsReal x := by
  rw [pinf] at h
  refine isReal_of_ne ?_ ?_
  · rintro rfl
    simp [Ideal.cmp] at h
  · rintro rfl
    simp [Ideal.cmp] at h

/-- Two bits whose conjunction is one are both one. -/
theorem and_one (a b : BitVec 1) (h : a &&& b = 1#1) : a = 1#1 ∧ b = 1#1 := by
  revert a b; decide

/-- Under the precondition every query and every key is a real number. -/
theorem isReal [Cert.Pre_finite_qk.Facts] (q k v : FVec Ideal Cert.KernelIdeal.S4x4096x768 .f32)
    (h : Cert.Pre_finite_qk.fn (F := Ideal) q k v = fun _ => 1#1) : (∀ i, IsReal (q i)) ∧ ∀ i, IsReal (k i) :=
  ⟨fun i => isReal_of_lt _ (and_one _ _ (congrFun h i)).1, fun i => isReal_of_lt _ (and_one _ _ (congrFun h i)).2⟩

end Cert.Finite

end
-- ==== Proof.Run.lean ====
/- The kernel program's run, to the contents its last host stretch leaves: every weakly fair execution terminates with the
   result array at `W9` and the three arguments as launched. The launch is the frame certificate's own; only what is read
   of the last state is more. -/
module

public import proofs.«01_k».proof.Proof.Gen.KernelIdeal.Frame

@[expose] public section

set_option maxRecDepth 16384

noncomputable section

namespace Cert.KernelIdeal.Corr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates with the result array at the last boundary's contents
    `W9` and the arguments unchanged. -/
theorem run : θ_run defs (onTc (τ := τ) (main (F := F))) ⟨m, fun _ => 0, ρ⟩ (fun r => ∀ c : Dev nD,
      r.2.mem ((c.tc : Thread nD τ).loc main_v25) = W9 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c =>
      ⟨h c _ (mem_uc main_v25 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c)⟩)

end Cert.KernelIdeal.Corr

end
-- ==== Proof.lean ====
/- THE CLAIM, assembled. The kernel's two readings run and leave their arguments alone (the generated frames); so does the reference.
   The values: the kernel's run (`Proof/Run.lean`) ends with what its four regions compute (`Fwd`, `Inv`, `TopArr`, `Gather`, put
   together in `HostOut`), the reference's run with a formula read index by index in `RefRead`, and on finite queries and keys the two
   are one function (`Equation`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.Finite
public import proofs.«01_k».proof.Proof.Run
public import proofs.«01_k».proof.Proof.HostOut
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.Kernel

/-- The precondition's function has the side condition it states. -/
theorem pre_facts : Cert.Pre_finite_qk.Facts := ⟨by decide⟩

/-- The reference runs from any memory, leaves its arguments as they were and its counters, of which it has none, at zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run (Cert.ReferenceIdeal.defs (F := Ideal)) _ _).mono
    (fun r h => ⟨fun c => (h c).2, sem_eq_zero_of_no_sems (by decide) r.2⟩)
    (Cert.ReferenceIdeal.Corr.run' m ρ)

/-- Kernel and reference, from memories that agree on the arguments, with every query and key finite, end with the same result. -/
theorem value : Cert.algebraic_KernelIdeal_ReferenceIdeal_pre_finite_qk (hKernelIdeal := Cert.KernelIdeal.Gen.facts)
    (hReferenceIdeal := Cert.ReferenceIdeal.Gen.facts) (hPre_finite_qk := pre_facts) := by
  intro m g m' g' hpre hargs
  refine ⟨fun c => Cert.KernelIdeal.Gen.W9 m g c (Proc.devRef .tc Cert.KernelIdeal.main_v25), Cert.KernelIdeal.Corr.run m g, ?_⟩
  refine (θ_run (Cert.ReferenceIdeal.defs (F := Ideal)) _ _).mono (fun r h c => ⟨(h c).1.trans ?_, (h c).2⟩) (Cert.ReferenceIdeal.Corr.run' m' g')
  have hf := @Cert.Finite.isReal pre_facts _ _ _ (hpre c)
  exact Cert.Equation.out_eq (StableHlo.launchContents m' c) _ _ _ hf.1 hf.2 (hargs c).1 (hargs c).2.1 (hargs c).2.2 _
    (fun b t d => Cert.KernelIdeal.Corr.W9_25 m g c b t d)

/-- Everything that is claimed. -/
theorem claim : Cert.Claim :=
  ⟨Cert.Kernel.Gen.facts, Cert.KernelIdeal.Gen.facts, Cert.ReferenceIdeal.Gen.facts, pre_facts,
    fun m ρ _ => Cert.Kernel.Gen.frame m ρ,
    fun m ρ _ => Cert.KernelIdeal.Gen.frame m ρ,
    fun m ρ _ => Cert.KernelIdeal.Gen.frame m ρ,
    fun m ρ _ => frame_reference m ρ,
    fun m ρ _ => frame_reference m ρ,
    trivial,
    value⟩

end Cert.Proof

end
